-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_target_in_range [hPre_target_in_range : Cert.Pre_target_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_target_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_target_in_range [hPre_target_in_range : Cert.Pre_target_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_target_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_target_in_range [hKernelIdeal : Cert.KernelIdeal.Facts] [hPre_target_in_range : Cert.Pre_target_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_target_in_range m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_target_in_range [hReferenceIdeal : Cert.ReferenceIdeal.Facts] [hPre_target_in_range : Cert.Pre_target_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_target_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "neg_s" .f32 0xB8112E8F#32 ((-1 / 28890 : ℝ) : EReal)
  ∧ IdealRules.named_const.Statement Cert.KernelIdeal.κ "coef" .f32 0x3F666422#32 ((2600 / 2889 : ℝ) : EReal)
  ∧ IdealRules.named_const.Statement Cert.KernelIdeal.κ "c1" .f32 0xBF8F9C0B#32 (((1 / 10) * (Real.log (14348907 / 1070000000000)) : ℝ) : EReal)

def algebraic_KernelIdeal_ReferenceIdeal_pre_target_in_range [hKernelIdeal : Cert.KernelIdeal.Facts] [hReferenceIdeal : Cert.ReferenceIdeal.Facts] [hPre_target_in_range : Cert.Pre_target_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_target_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_target_in_range : Cert.Pre_target_in_range.Facts),
    quiescent_Kernel (hKernel := hKernel)
    ∧ quiescent_KernelIdeal (hKernelIdeal := hKernelIdeal)
    ∧ quiescent_KernelIdeal_pre_target_in_range (hKernelIdeal := hKernelIdeal) (hPre_target_in_range := hPre_target_in_range)
    ∧ quiescent_ReferenceIdeal (hReferenceIdeal := hReferenceIdeal)
    ∧ quiescent_ReferenceIdeal_pre_target_in_range (hReferenceIdeal := hReferenceIdeal) (hPre_target_in_range := hPre_target_in_range)
    ∧ preserves_Kernel_KernelIdeal
    ∧ algebraic_KernelIdeal_ReferenceIdeal_pre_target_in_range (hKernelIdeal := hKernelIdeal) (hReferenceIdeal := hReferenceIdeal) (hPre_target_in_range := hPre_target_in_range)
-- ==== Pre_target_in_range.lean ====
abbrev S16384x2891 : Shape := ⟨2, ![16384, 2891]⟩
abbrev S16384 : Shape := ⟨1, ![16384]⟩
abbrev S_ : Shape := ⟨0, ![]⟩

class Facts : Prop where
  bcast_S_S16384 : S_.BroadcastsInDim S16384 (![] : Fin 0 → Fin S16384.rank)
  reducesTo_S16384_S_d0 : S16384.ReducesTo [0] S_
  h_S_ : 0 < S_.numel
  bcast_S_S16384x2891 : S_.BroadcastsInDim S16384x2891 (![] : Fin 0 → Fin S16384x2891.rank)
  reducesTo_S16384x2891_S_d0_1 : S16384x2891.ReducesTo [0, 1] S_

variable [Facts]

def fn {F : FTy → Type} [FloatOps F] (main_arg0 : FVec F S16384x2891 .f32) (main_arg1 : IVec S16384 32) : IVec S_ 1 :=
  let main_c : IVec S_ 32 := constantI S_ 32 0#32
  let main_v0 : IVec S16384 32 := broadcastInDim S16384 ![] bcast_S_S16384 main_c
  let main_v1 : IVec S16384 1 := cmpi .sge main_arg1 main_v0
  let main_c_0 : IVec S_ 32 := constantI S_ 32 2891#32
  let main_v2 : IVec S16384 32 := broadcastInDim S16384 ![] bcast_S_S16384 main_c_0
  let main_v3 : IVec S16384 1 := cmpi .slt main_arg1 main_v2
  let main_v4 : IVec S16384 1 := andi main_v1 main_v3
  let main_c_1 : IVec S_ 1 := constantI S_ 1 1#1
  let main_v5 : IVec S_ 1 := (fun x v => Host.reduce IntOp.andi x v reducesTo_S16384_S_d0 h_S_) main_v4 main_c_1
  let main_v6 : FVec F S16384x2891 .f32 := Host.absf main_arg0
  let main_cst : FVec F S_ .f32 := constant S_ .f32 0x7F800000#32
  let main_v7 : FVec F S16384x2891 .f32 := broadcastInDim S16384x2891 ![] bcast_S_S16384x2891 main_cst
  let main_v8 : IVec S16384x2891 1 := cmpf .olt main_v6 main_v7
  let main_c_2 : IVec S_ 1 := constantI S_ 1 1#1
  let main_v9 : IVec S_ 1 := (fun x v => Host.reduce IntOp.andi x v reducesTo_S16384x2891_S_d0_1 h_S_) main_v8 main_c_2
  let main_v10 : IVec S_ 1 := andi main_v5 main_v9
  main_v10
-- ==== Kernel.lean ====
abbrev S16384x2891 : Shape := ⟨2, ![16384, 2891]⟩
abbrev S16384 : Shape := ⟨1, ![16384]⟩
abbrev S32x1x512 : Shape := ⟨3, ![32, 1, 512]⟩
abbrev S1x1 : Shape := ⟨2, ![1, 1]⟩
abbrev S8x1x2048 : Shape := ⟨3, ![8, 1, 2048]⟩
abbrev S512x2891 : Shape := ⟨2, ![512, 2891]⟩
abbrev S1x1x512 : Shape := ⟨3, ![1, 1, 512]⟩
abbrev S1x1x2048 : Shape := ⟨3, ![1, 1, 2048]⟩
abbrev S512 : Shape := ⟨1, ![512]⟩
abbrev S512x1 : Shape := ⟨2, ![512, 1]⟩
abbrev S1x512 : Shape := ⟨2, ![1, 512]⟩
abbrev S1 : Shape := ⟨1, ![1]⟩
abbrev S2048 : Shape := ⟨1, ![2048]⟩
abbrev S32x16 : Shape := ⟨2, ![32, 16]⟩
abbrev S16 : Shape := ⟨1, ![16]⟩
abbrev S_ : Shape := ⟨0, ![]⟩
abbrev S1x16 : Shape := ⟨2, ![1, 16]⟩

abbrev nBuf : Table → Nat
  | .hbm => 11
  | .local .tc .vmem => 19
  | .local .scVector .vmem => 3
  | _ => 0

abbrev bufTy : (tb : Table) → Fin (nBuf tb) → BufTy
  | .hbm, ⟨0, _⟩ => ⟨S16384x2891, .f32⟩
  | .hbm, ⟨1, _⟩ => ⟨S16384, .i32⟩
  | .hbm, ⟨2, _⟩ => ⟨S32x1x512, .i32⟩
  | .hbm, ⟨3, _⟩ => ⟨S1x1, .f32⟩
  | .hbm, ⟨4, _⟩ => ⟨S8x1x2048, .f32⟩
  | .hbm, ⟨5, _⟩ => ⟨S16384, .f32⟩
  | .hbm, ⟨6, _⟩ => ⟨S32x16, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local .tc .vmem, ⟨0, _⟩ => ⟨S512x2891, .f32⟩
  | .local .tc .vmem, ⟨1, _⟩ => ⟨S512x2891, .f32⟩
  | .local .tc .vmem, ⟨2, _⟩ => ⟨S512x2891, .f32⟩
  | .local .tc .vmem, ⟨3, _⟩ => ⟨S512x2891, .f32⟩
  | .local .tc .vmem, ⟨4, _⟩ => ⟨S512x2891, .f32⟩
  | .local .tc .vmem, ⟨5, _⟩ => ⟨S512x2891, .f32⟩
  | .local .tc .vmem, ⟨6, _⟩ => ⟨S512x2891, .f32⟩
  | .local .tc .vmem, ⟨7, _⟩ => ⟨S512x2891, .f32⟩
  | .local .tc .vmem, ⟨8, _⟩ => ⟨S1x1x512, .i32⟩
  | .local .tc .vmem, ⟨9, _⟩ => ⟨S1x1x512, .i32⟩
  | .local .tc .vmem, ⟨10, _⟩ => ⟨S1x1x512, .i32⟩
  | .local .tc .vmem, ⟨11, _⟩ => ⟨S1x1x512, .i32⟩
  | .local .tc .vmem, ⟨12, _⟩ => ⟨S1x1x512, .i32⟩
  | .local .tc .vmem, ⟨13, _⟩ => ⟨S1x1x512, .i32⟩
  | .local .tc .vmem, ⟨14, _⟩ => ⟨S1x1x512, .i32⟩
  | .local .tc .vmem, ⟨15, _⟩ => ⟨S1x1x512, .i32⟩
  | .local .tc .vmem, ⟨16, _⟩ => ⟨S1x1, .f32⟩
  | .local .tc .vmem, ⟨17, _⟩ => ⟨S1x1x2048, .f32⟩
  | .local .tc .vmem, ⟨18, _⟩ => ⟨S1x1x2048, .f32⟩
  | .local .scVector .vmem, ⟨0, _⟩ => ⟨S512, .i32⟩
  | .local .scVector .vmem, ⟨1, _⟩ => ⟨S512, .f32⟩
  | .local .scVector .vmem, ⟨2, _⟩ => ⟨S16, .f32⟩
  | _, _ => ⟨S16384x2891, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => false
  | ⟨20, _⟩ => false
  | ⟨21, _⟩ => false
  | _ => false

abbrev sig : RefSig :=
  ofTables nBuf rfl bufTy 4 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1_0 : Ref sig .tc := ⟨.hbm, 3, rfl⟩
abbrev main_v1_1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v2_scv : Ref sig .scVector := ⟨.hbm, 5, rfl⟩
abbrev main_arg1_scv : Ref sig .scVector := ⟨.hbm, 1, rfl⟩
abbrev main_v3_scv : Ref sig .scVector := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg9_0 : Ref sig .tc := ⟨.vmem, 17, rfl⟩
abbrev cc0_stg9_1 : Ref sig .tc := ⟨.vmem, 18, rfl⟩
abbrev cc1_scratch0 : Ref sig .scVector := ⟨.vmem, 0, rfl⟩
abbrev cc1_scratch1 : Ref sig .scVector := ⟨.vmem, 1, rfl⟩
abbrev cc1_scratch2 : Ref sig .scVector := ⟨.vmem, 2, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32_42 : BitVec 32 := 0#32
  let v101 : BitVec 1 := Scalar.cmpi .eq arg0 c0_i32_42
  let v102 : BitVec 32 := Scalar.extui v101
  let c0_i32_43 : BitVec 32 := 0#32
  let v103 : BitVec 1 := Scalar.cmpi .ne v102 c0_i32_43
  v103

def k0_cond2 (i : grid0.Coords) : BitVec 1 :=
  let arg0 : BitVec 32 := BitVec.ofNat 32 (i 0).val
  let c0_i32_44 : BitVec 32 := 0#32
  let v104 : BitVec 1 := Scalar.cmpi .ne arg0 c0_i32_44
  let v105 : BitVec 32 := Scalar.extui v104
  let c0_i32_45 : BitVec 32 := 0#32
  let v106 : BitVec 1 := Scalar.cmpi .ne v105 c0_i32_45
  v106

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_4 (i : grid0.Coords) : Fin 3 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  let c0_i32_2 : BitVec 32 := 0#32
  ![v0.toNat, c0_i32_0.toNat, c0_i32_1.toNat]

def cc0_transform_5 (i : grid0.Coords) : Fin 3 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  let c0_i32_1 : BitVec 32 := 0#32
  ![v0.toNat, c0_i32.toNat, c0_i32_0.toNat]

def cc0_transform_6 (i : grid0.Coords) : Fin 3 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  let c0_i32_1 : BitVec 32 := 0#32
  ![v0.toNat, c0_i32.toNat, c0_i32_0.toNat]

def cc0_transform_7 (i : grid0.Coords) : Fin 3 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  let c0_i32_1 : BitVec 32 := 0#32
  ![v0.toNat, c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x2891 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x2891 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2891 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2891 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x512 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x512 .i32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x512 .i32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨2, ![2, 16], ![false, false]⟩

def k1_off1 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let c8_i32_10 : BitVec 32 := 8#32
  let v29 : BitVec 32 := Scalar.muli v18 c8_i32_10
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1_i32_11 : BitVec 32 := 1#32
  let v30 : BitVec 32 := Scalar.muli v28 c1_i32_11
  let v31 : BitVec 32 := Scalar.addi v29 v30
  let c512_i32 : BitVec 32 := 512#32
  let v32 : BitVec 32 := Scalar.muli v31 c512_i32
  ![v32.toNat]
def k1_off2 (i : grid1.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32_4 : BitVec 32 := 8#32
  let c0_i32_5 : BitVec 32 := 0#32
  let v19 : BitVec 1 := Scalar.cmpi .eq c8_i32_4 c0_i32_5
  let c1_i32_6 : BitVec 32 := 1#32
  let v20 : BitVec 32 := Scalar.select v19 c1_i32_6 c8_i32_4
  let v21 : BitVec 32 := Scalar.remsi v1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c1_i32_12 : BitVec 32 := 1#32
  let v33 : BitVec 32 := Scalar.muli v28 c1_i32_12
  let c0_i32_13 : BitVec 32 := 0#32
  let v34 : BitVec 32 := Scalar.addi v33 c0_i32_13
  let c4_i32 : BitVec 32 := 4#32
  let v35 : BitVec 32 := Scalar.muli v34 c4_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c8_i32 : BitVec 32 := 8#32
  let c0_i32_1 : BitVec 32 := 0#32
  let v8 : BitVec 1 := Scalar.cmpi .sgt c8_i32 c0_i32_1
  let v9 : BitVec 32 := Scalar.extui v8
  let c0_i32_2 : BitVec 32 := 0#32
  let v10 : BitVec 1 := Scalar.cmpi .slt c8_i32 c0_i32_2
  let v11 : BitVec 32 := Scalar.extui v10
  let v12 : BitVec 32 := Scalar.subi v9 v11
  let v13 : BitVec 1 := Scalar.cmpi .ne v7 v12
  let v14 : BitVec 32 := Scalar.remsi v1 c8_i32
  let c0_i32_3 : BitVec 32 := 0#32
  let v15 : BitVec 1 := Scalar.cmpi .ne v14 c0_i32_3
  let v16 : BitVec 1 := Scalar.andi v13 v15
  let v2 : BitVec 32 := Scalar.divsi v1 c8_i32
  let c1_i32 : BitVec 32 := 1#32
  let v17 : BitVec 32 := Scalar.subi v2 c1_i32
  let v18 : BitVec 32 := Scalar.select v16 v17 v2
  let v36 : BitVec 32 := Scalar.addi v35 v18
  let c512_i32_14 : BitVec 32 := 512#32
  let v37 : BitVec 32 := Scalar.muli v36 c512_i32_14
  ![v37.toNat]
def k1_off3 (i : grid1.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c0_i32_149_r1 : BitVec 32 := 0#32
  ![v1.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "c1" => some (((1 / 10) * (Real.log (14348907 / 1070000000000)) : ℝ) : EReal)
  | "coef" => some ((2600 / 2889 : ℝ) : EReal)
  | "neg_s" => some ((-1 / 28890 : ℝ) : EReal)
  | _ => none
-- ==== ReferenceIdeal.lean ====
abbrev S16384x2891 : Shape := ⟨2, ![16384, 2891]⟩
abbrev S16384 : Shape := ⟨1, ![16384]⟩
abbrev S_ : Shape := ⟨0, ![]⟩
abbrev S16384x1 : Shape := ⟨2, ![16384, 1]⟩
abbrev S16384x2 : Shape := ⟨2, ![16384, 2]⟩
abbrev S1 : Shape := ⟨1, ![1]⟩

abbrev nBuf : Space → Nat
  | .hbm => 63
  | .vmem => 0
  | .smem => 0
  | _ => 0

abbrev bufTy : (tb : Table) → Fin (tcTables nBuf tb) → BufTy
  | .hbm, ⟨0, _⟩ => ⟨S16384x2891, .f32⟩
  | .hbm, ⟨1, _⟩ => ⟨S16384, .i32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S16384x2891, .f32⟩
  | .hbm, ⟨10, _⟩ => ⟨S16384, .i32⟩
  | .hbm, ⟨11, _⟩ => ⟨S_, .i32⟩
  | .hbm, ⟨12, _⟩ => ⟨S16384, .i32⟩
  | .hbm, ⟨13, _⟩ => ⟨S16384, .i1⟩
  | .hbm, ⟨14, _⟩ => ⟨S_, .i32⟩
  | .hbm, ⟨15, _⟩ => ⟨S16384, .i32⟩
  | .hbm, ⟨16, _⟩ => ⟨S16384, .i32⟩
  | .hbm, ⟨17, _⟩ => ⟨S16384, .i32⟩
  | .hbm, ⟨18, _⟩ => ⟨S_, .i32⟩
  | .hbm, ⟨19, _⟩ => ⟨S16384, .i32⟩
  | .hbm, ⟨20, _⟩ => ⟨S16384, .i1⟩
  | .hbm, ⟨21, _⟩ => ⟨S_, .i32⟩
  | .hbm, ⟨22, _⟩ => ⟨S16384, .i32⟩
  | .hbm, ⟨23, _⟩ => ⟨S16384, .i32⟩
  | .hbm, ⟨24, _⟩ => ⟨S16384, .i32⟩
  | .hbm, ⟨25, _⟩ => ⟨S16384x1, .i32⟩
  | .hbm, ⟨26, _⟩ => ⟨S16384x1, .i32⟩
  | .hbm, ⟨27, _⟩ => ⟨S16384x2, .i32⟩
  | .hbm, ⟨28, _⟩ => ⟨S16384, .f32⟩
  | .hbm, ⟨29, _⟩ => ⟨S16384x2891, .f32⟩
  | .hbm, ⟨30, _⟩ => ⟨S_, .i32⟩
  | .hbm, ⟨31, _⟩ => ⟨S1, .i32⟩
  | .hbm, ⟨32, _⟩ => ⟨S_, .f32⟩
  | .hbm, ⟨33, _⟩ => ⟨S16384, .f32⟩
  | .hbm, ⟨34, _⟩ => ⟨S16384x2891, .f32⟩
  | .hbm, ⟨35, _⟩ => ⟨S_, .i32⟩
  | .hbm, ⟨36, _⟩ => ⟨S16384, .i32⟩
  | .hbm, ⟨37, _⟩ => ⟨S16384, .i1⟩
  | .hbm, ⟨38, _⟩ => ⟨S16384x1, .i1⟩
  | .hbm, ⟨39, _⟩ => ⟨S_, .f32⟩
  | .hbm, ⟨40, _⟩ => ⟨S_, .f32⟩
  | .hbm, ⟨41, _⟩ => ⟨S16384x2891, .i1⟩
  | .hbm, ⟨42, _⟩ => ⟨S16384x2891, .f32⟩
  | .hbm, ⟨43, _⟩ => ⟨S16384x2891, .f32⟩
  | .hbm, ⟨44, _⟩ => ⟨S_, .f32⟩
  | .hbm, ⟨45, _⟩ => ⟨S16384x2891, .f32⟩
  | .hbm, ⟨46, _⟩ => ⟨S16384x2891, .i1⟩
  | .hbm, ⟨47, _⟩ => ⟨S_, .f32⟩
  | .hbm, ⟨48, _⟩ => ⟨S_, .f32⟩
  | .hbm, ⟨49, _⟩ => ⟨S16384x2891, .f32⟩
  | .hbm, ⟨50, _⟩ => ⟨S16384x2891, .f32⟩
  | .hbm, ⟨51, _⟩ => ⟨S_, .f32⟩
  | .hbm, ⟨52, _⟩ => ⟨S16384x2891, .f32⟩
  | .hbm, ⟨53, _⟩ => ⟨S16384x2891, .i1⟩
  | .hbm, ⟨54, _⟩ => ⟨S16384x2891, .f32⟩
  | .hbm, ⟨55, _⟩ => ⟨S16384x2891, .f32⟩
  | .hbm, ⟨56, _⟩ => ⟨S16384x2891, .f32⟩
  | .hbm, ⟨57, _⟩ => ⟨S_, .f32⟩
  | .hbm, ⟨58, _⟩ => ⟨S_, .f32⟩
  | .hbm, ⟨59, _⟩ => ⟨S16384x2891, .f32⟩
  | .hbm, ⟨60, _⟩ => ⟨S16384x2891, .f32⟩
  | .hbm, ⟨61, _⟩ => ⟨S_, .f32⟩
  | .hbm, ⟨62, _⟩ => ⟨S_, .f32⟩
  | _, _ => ⟨S16384x2891, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_v1 : Ref sig .tc := ⟨.hbm, 6, rfl⟩
abbrev main_cst_2 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_v5 : Ref sig .tc := ⟨.hbm, 12, rfl⟩
abbrev main_v6 : Ref sig .tc := ⟨.hbm, 13, rfl⟩
abbrev main_c_3 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_4 : Ref sig .tc := ⟨.hbm, 18, rfl⟩
abbrev main_v10 : Ref sig .tc := ⟨.hbm, 19, rfl⟩
abbrev main_v11 : Ref sig .tc := ⟨.hbm, 20, rfl⟩
abbrev main_c_5 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_c_6 : Ref sig .tc := ⟨.hbm, 30, rfl⟩
abbrev main_v20 : Ref sig .tc := ⟨.hbm, 31, rfl⟩
abbrev main_cst_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_9 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_cst_11 : Ref sig .tc := ⟨.hbm, 47, rfl⟩
abbrev main_call1_v0 : Ref sig .tc := ⟨.hbm, 48, rfl⟩
abbrev main_call1_v1 : Ref sig .tc := ⟨.hbm, 49, rfl⟩
abbrev main_v29 : Ref sig .tc := ⟨.hbm, 50, rfl⟩
abbrev main_cst_12 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_cst_13 : Ref sig .tc := ⟨.hbm, 57, rfl⟩
abbrev main_call2_v0 : Ref sig .tc := ⟨.hbm, 58, rfl⟩
abbrev main_call2_v1 : Ref sig .tc := ⟨.hbm, 59, rfl⟩
abbrev main_v35 : Ref sig .tc := ⟨.hbm, 60, rfl⟩
abbrev main_cst_14 : Ref sig .tc := ⟨.hbm, 61, rfl⟩
abbrev main_v36 : Ref sig .tc := ⟨.hbm, 62, rfl⟩

abbrev nD : Nat := 1
abbrev τ : Topo := Topo.v7x

variable {F : FTy → Type} [FloatOps F]
-- ==== Proof.TileIdeal.lean ====
/-
  The vector subcores' task of the idealized kernel: what one tile moves and computes, with the value it leaves in its row
  of the partial sums.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.VecWindow
public import Idealize.ShloMosaic.Lib.Pipeline.Value
public import Idealize.ShloMosaic.Lib.ViewIndex

@[expose] public section

noncomputable section

namespace Cert.KernelIdeal.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

/-! ## The program as the launch theorem sees it -/

/-- The labels of the two calls: the TensorCore's region and the SparseCores' kernel. -/
abbrev ΛP : Labels := Pipeline.Sig Λ₀ (Fin 1) fun p => (pcfgs (F := F) p).Adm
/-- The SparseCore configuration. -/
abbrev K : SparseCore.Cfg τ sig (ΛP (F := F)) 1 := sc (F := F)
/-- The definitions under the SparseCore's own. -/
abbrev D : Defs nD τ sig (Elt F) (ΛP (F := F)) := Pipeline.defs pcfgs defs₀
/-- No body loops without bound. -/
abbrev 𝒱₀ : Variants := Variants.none

abbrev 𝒱 : Variants := 𝒱₀.lift
abbrev v₀ : 𝒱.V := Sum.inl none
theorem nSub_zero : (K (F := F)).nSub 0 = 16 := rfl
theorem nCore_zero : (K (F := F)).nCore 0 = 2 := rfl

/-- The handshakes' cells are five distinct registers and no SparseCore buffer is shared between tasks. -/
theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The region's staging rounds. -/
abbrev UK : Type := URounds (GSem nD τ sig) Unit
/-- The user algebra: handshakes, the region's rounds, and the tiles' own transfers. -/
abbrev UU : Type := UH × (UK × Counters)

local notation "𝕄" => MT nD τ sig (HIx 1) (Elt F) ℕ UU ℕ

local notation "gV" => (Memref.whole Cert.KernelIdeal.main_v2_scv : Memref Cert.KernelIdeal.sig Kind.scVector Space.hbm Cert.KernelIdeal.S16384 EltTy.f32)
local notation "tV" => (Memref.whole Cert.KernelIdeal.main_arg1_scv : Memref Cert.KernelIdeal.sig Kind.scVector Space.hbm Cert.KernelIdeal.S16384 EltTy.i32)
local notation "oV" => (Memref.whole Cert.KernelIdeal.main_v3_scv : Memref Cert.KernelIdeal.sig Kind.scVector Space.hbm Cert.KernelIdeal.S32x16 EltTy.f32)
local notation "sT" => (Memref.whole Cert.KernelIdeal.cc1_scratch0 : Memref Cert.KernelIdeal.sig Kind.scVector Space.vmem Cert.KernelIdeal.S512 EltTy.i32)
local notation "sG" => (Memref.whole Cert.KernelIdeal.cc1_scratch1 : Memref Cert.KernelIdeal.sig Kind.scVector Space.vmem Cert.KernelIdeal.S512 EltTy.f32)
local notation "sA" => (Memref.whole Cert.KernelIdeal.cc1_scratch2 : Memref Cert.KernelIdeal.sig Kind.scVector Space.vmem Cert.KernelIdeal.S16 EltTy.f32)

/-! ## The value a tile leaves -/

/-- What one row adds to its lane: nothing at target 0, else `c1 - coef * g`. -/
def laneTerm (t : BitVec 32) (g : F .f32) : F .f32 :=
  Scalar.select (IntOp.cmpi .ne t 0#32) (FloatOps.subf (Named.named κ "c1" 0xBF8F9C0B#32) (FloatOps.mulf (Named.named κ "coef" 0x3F666422#32) g))
    (Scalar.ofBits .f32 0x00000000#32)

/-- The running sum of `n` rows. -/
def laneSum (t : ℕ → BitVec 32) (g : ℕ → F .f32) : ℕ → F .f32
  | 0 => Scalar.ofBits .f32 0x00000000#32
  | n + 1 => FloatOps.addf (laneSum t g n) (laneTerm (t n) (g n))

/-- Position `n` of a tile's 512 rows. -/
def ix (n : ℕ) : S512.Idx := fun | 0 => ⟨n % 512, Nat.mod_lt _ (by decide)⟩

/-- Lane `l` of a tile adds up rows `l`, `16 + l`, …, `496 + l` of its 512. -/
def laneOut (tv : Vec F S512 .i32) (gv : Vec F S512 .f32) : Vec F S16 .f32 :=
  fun l => laneSum (fun k => tv (ix (16 * k + (l 0).val))) (fun k => gv (ix (16 * k + (l 0).val))) 32

/-- Sixteen consecutive rows from position `n` on. -/
def chunk {α : Type} (x : S512.Idx → α) (n : ℕ) : S16.Idx → α := fun l => x (ix (n + (l 0).val))

theorem window_eq_chunk {α : Type} (x : S512.Idx → α) (n : ℕ) (h : ∀ a, (![n] : Fin 1 → ℕ) a + S16.size a ≤ S512.size a) :
    VecWindow.window x ![n] S16.size h = chunk x n := by
  funext l
  refine congrArg x (funext fun a => ?_)
  have ha : a = 0 := Subsingleton.elim _ _
  subst ha
  refine Fin.ext ?_
  have h0 := h 0
  have hl : (l 0).val < 16 := (l 0).isLt
  show n + 1 * (l 0).val = (n + (l 0).val) % 512
  have h0' : n + 16 ≤ 512 := h0
  omega

omit [FloatOps F] [Named F] in
/-- A load of sixteen targets from the scratch the transfer filled. -/
theorem load_sT (f : (sT).view.ty.Contents (Elt F)) (w : S512.Idx → Elt F .i32) (n : ℕ) (h : ∀ a, (![n] : Fin 1 → ℕ) a + S16.size a ≤ S512.size a) :
    View.readAt (Elt F) (View.whole cc1_scratch0) (Rect.unit (s := S512) ![n] S16.size h).toLoadRect (View.write (Elt F) (View.whole cc1_scratch0) f w Finset.univ) = chunk w n := by
  rw [View.readAt_unit (View.whole cc1_scratch0) _ h rfl h, View.read_write_univ]
  exact window_eq_chunk w n h

omit [Named F] in
/-- A load of sixteen picked values from the scratch the transfer filled. -/
theorem load_sG (w : S512.Idx → Elt F .f32) (h0 : ∀ a, (![0] : Fin 1 → ℕ) a + S512.size a ≤ S512.size a) (n : ℕ)
    (h : ∀ a, (![n] : Fin 1 → ℕ) a + S16.size a ≤ S512.size a) :
    (View.whole cc1_scratch1).readCov (Val := Elt F) [⟨Rect.unit (s := S512) ![0] S512.size h0, w⟩] (Rect.unit (s := S512) ![n] S16.size h).toLoadRect = chunk w n := by
  show (sG).view.readAt (Elt F) _ _ = _
  rw [View.readAt_unit (sG).view _ h rfl h, show (sG).view.read (Elt F) ((sG).view.writes (Elt F) (sG).view.junk [⟨Rect.unit (s := S512) ![0] S512.size h0, w⟩]) = w from
    View.read_writes_full (s := S512) (sG).view _ h0 w []]
  exact window_eq_chunk w n h

/-- The tile's arithmetic in the order its body does it, over the sixteen-row loads `t` of the targets and `g` of the picked values. -/
def tileRaw (t : (n : ℕ) → (∀ a, (![n] : Fin 1 → ℕ) a + S16.size a ≤ S512.size a) → Vec F S16 .i32) (g : (n : ℕ) → (∀ a, (![n] : Fin 1 → ℕ) a + S16.size a ≤ S512.size a) → Vec F S16 .f32) : Vec F S16 .f32 :=
  have v47 := k1_pay2 (F := F)
  have v71 := k1_pay3 (t 0 inb_S512_S16_0) (g 0 inb_S512_S16_0) (t 16 inb_S512_S16_16) (g 16 inb_S512_S16_16)
  have v107 := k1_pay4 v47 v71 (t 32 inb_S512_S16_32) (g 32 inb_S512_S16_32) (t 48 inb_S512_S16_48) (g 48 inb_S512_S16_48) (t 64 inb_S512_S16_64) (g 64 inb_S512_S16_64)
  have v155 := k1_pay7 v47 v107 (k1_pay5 (g 80 inb_S512_S16_80)) (k1_pay6 (F := F) (t 80 inb_S512_S16_80)) (Named.named κ "coef" 0x3F666422#32) (t 96 inb_S512_S16_96) (g 96 inb_S512_S16_96) (t 112 inb_S512_S16_112) (g 112 inb_S512_S16_112) (t 128 inb_S512_S16_128) (g 128 inb_S512_S16_128)
  have v191 := k1_pay8 v47 v155 (t 144 inb_S512_S16_144) (g 144 inb_S512_S16_144) (t 160 inb_S512_S16_160) (g 160 inb_S512_S16_160) (t 176 inb_S512_S16_176) (g 176 inb_S512_S16_176)
  have v239 := k1_pay12 v47 v191 (k1_pay9 (g 192 inb_S512_S16_192)) (k1_pay10 (F := F) (t 192 inb_S512_S16_192)) (k1_pay11 (F := F)) (t 208 inb_S512_S16_208) (g 208 inb_S512_S16_208) (t 224 inb_S512_S16_224) (g 224 inb_S512_S16_224) (t 240 inb_S512_S16_240) (g 240 inb_S512_S16_240)
  have v275 := k1_pay14 v47 v239 (k1_pay13 (F := F) (t 256 inb_S512_S16_256)) (g 256 inb_S512_S16_256) (t 272 inb_S512_S16_272) (g 272 inb_S512_S16_272) (t 288 inb_S512_S16_288) (g 288 inb_S512_S16_288)
  have v323 := k1_pay17 v47 v275 (k1_pay15 (F := F) (t 304 inb_S512_S16_304)) (k1_pay16 (g 304 inb_S512_S16_304)) (t 320 inb_S512_S16_320) (g 320 inb_S512_S16_320) (t 336 inb_S512_S16_336) (g 336 inb_S512_S16_336) (t 352 inb_S512_S16_352) (g 352 inb_S512_S16_352)
  have v359 := k1_pay19 v47 v323 (k1_pay18 (F := F) (t 368 inb_S512_S16_368)) (g 368 inb_S512_S16_368) (t 384 inb_S512_S16_384) (g 384 inb_S512_S16_384) (t 400 inb_S512_S16_400) (g 400 inb_S512_S16_400)
  have v407 := k1_pay22 v47 v359 (k1_pay20 (F := F) (t 416 inb_S512_S16_416)) (k1_pay21 (g 416 inb_S512_S16_416)) (Named.named κ "c1" 0xBF8F9C0B#32) (t 432 inb_S512_S16_432) (g 432 inb_S512_S16_432) (t 448 inb_S512_S16_448) (g 448 inb_S512_S16_448) (t 464 inb_S512_S16_464) (g 464 inb_S512_S16_464)
  k1_pay1 v47 v407 (k1_pay23 (F := F) (t 480 inb_S512_S16_480)) (g 480 inb_S512_S16_480) (t 496 inb_S512_S16_496) (g 496 inb_S512_S16_496)

/-- Over the loads of a tile's 512 rows, that arithmetic is the lanes' sums. -/
theorem tileRaw_chunk (tv : Vec F S512 .i32) (gv : Vec F S512 .f32) : tileRaw (fun n _ => chunk tv n) (fun n _ => chunk gv n) = laneOut tv gv := by
  unfold tileRaw
  dsimp only
  simp only [k1_pay1, k1_pay2, k1_pay3, k1_pay4, k1_pay5, k1_pay6, k1_pay7, k1_pay8, k1_pay9, k1_pay10, k1_pay11, k1_pay12, k1_pay13, k1_pay14,
    k1_pay15, k1_pay16, k1_pay17, k1_pay18, k1_pay19, k1_pay20, k1_pay21, k1_pay22, k1_pay23, shapeCast_self]
  rfl

/-! ## A tile's pieces -/

/-- The picked values, the targets and the partial sums, as locations of device `d`. -/
abbrev gLoc (d : Dev nD) : Loc nD τ sig := (SparseCore.T d).loc main_v2
abbrev tLoc (d : Dev nD) : Loc nD τ sig := (SparseCore.T d).loc main_arg1
abbrev oLoc (d : Dev nD) : Loc nD τ sig := (SparseCore.T d).loc main_v3

/-- The 512 targets a tile reads, as its body slices them. -/
abbrev tM (L : grid1.Coords) : Memref sig .scVector .hbm S512 .i32 := (tV).slice (Rect.unit (s := S16384) (k1_off1 L) S512.size (k1_off1_inb L)) (fun _ => rfl)
/-- The 512 picked values a tile reads. -/
abbrev gM (L : grid1.Coords) : Memref sig .scVector .hbm S512 .f32 := (gV).slice (Rect.unit (s := S16384) (k1_off2 L) S512.size (k1_off2_inb L)) (fun _ => rfl)
/-- The row of sixteen sums a tile writes. -/
abbrev oM (L : grid1.Coords) : Memref sig .scVector .hbm S16 .f32 :=
  ((oV).slice (Rect.unit (s := S32x16) (k1_off3 L) S1x16.size (k1_off3_inb L)) (fun _ => rfl)).squeeze S16 squeezes_S1x16_S16

abbrev tPts (d : Dev nD) (L : grid1.Coords) (f : Buf (Elt F) (tLoc d)) : sProp 𝕄 := tLoc d ↦[(tM L).view.set]{fullShare} f
abbrev gPts (d : Dev nD) (L : grid1.Coords) (f : Buf (Elt F) (gLoc d)) : sProp 𝕄 := gLoc d ↦[(gM L).view.set]{fullShare} f
abbrev oPts (d : Dev nD) (L : grid1.Coords) (f : Buf (Elt F) (oLoc d)) : sProp 𝕄 := oLoc d ↦[(oM L).view.set]{fullShare} f

section Tile

variable (d : Dev nD) (L : grid1.Coords)

abbrev cV (L : grid1.Coords) : Fin τ.nSC := (L 0).castLE hcore1
abbrev jV (L : grid1.Coords) : Fin τ.nSub := (L 1).castLE hsub1

/-- The tile's three transfer cells. -/
abbrev cAcell (d : Dev nD) (c : Fin τ.nSC) (i : Fin τ.nSub) : GSem nD τ sig := (V d c i, .dma cc1_scoped0.sem)
abbrev cBcell (d : Dev nD) (c : Fin τ.nSC) (i : Fin τ.nSub) : GSem nD τ sig := (V d c i, .dma cc1_scratch3.sem)
abbrev cCcell (d : Dev nD) (c : Fin τ.nSC) (i : Fin τ.nSub) : GSem nD τ sig := (V d c i, .dma cc1_scoped1.sem)

omit [FloatOps F] [Named F] in
/-- The tile's own cells: its three, and the others. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L)))
              fun g => semVal g 0) := by
  unfold SparseCore.Cfg.ownSems0
  rw [SparseCore.bigSep_erase' ((mem_ownCells (g := cAcell d (cV L) (jV L))).mpr ⟨rfl, by
      show (SemLoc.dma cc1_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc1_scratch3.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc1_scoped1.sem : SemLoc sig).isScoped .scVector = true; decide⟩⟩⟩)]

omit [FloatOps F] [Named F] in
/-- The tile's own buffers: its three scratches at some contents, and the others. -/
theorem ownBufs_V :
    (ownBufs (V d (cV L) (jV L)) : sProp 𝕄)
      = iprop((∃ f, (V d (cV L) (jV L)).loc cc1_scratch0 ↦{fullShare} f) ∗ (∃ f, (V d (cV L) (jV L)).loc cc1_scratch1 ↦{fullShare} f)
          ∗ (∃ f, (V d (cV L) (jV L)).loc cc1_scratch2 ↦{fullShare} f)
          ∗ bigSep ((((ownRefs (τ := τ) (.scVector (cV L) (jV L))).erase ((Proc.scVector (cV L) (jV L)).devRef cc1_scratch0)).erase
              ((Proc.scVector (cV L) (jV L)).devRef cc1_scratch1)).erase ((Proc.scVector (cV L) (jV L)).devRef cc1_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc1_scratch0) rfl)).trans ?_
  rw [SparseCore.bigSep_erase' (Finset.mem_erase.mpr ⟨fun e => absurd (Proc.devRef_injective _ e) (show (cc1_scratch1 : Ref sig .scVector) ≠ cc1_scratch0 by decide),
    SparseCore.Cfg.mem_ownRefs_of_owner (p := Proc.scVector (cV L) (jV L)) (b := (Proc.scVector (cV L) (jV L)).devRef cc1_scratch1) rfl⟩),
    SparseCore.bigSep_erase' (Finset.mem_erase.mpr ⟨fun e => absurd (Proc.devRef_injective _ e) (show (cc1_scratch2 : Ref sig .scVector) ≠ cc1_scratch1 by decide),
      Finset.mem_erase.mpr ⟨fun e => absurd (Proc.devRef_injective _ e) (show (cc1_scratch2 : Ref sig .scVector) ≠ cc1_scratch0 by decide),
      SparseCore.Cfg.mem_ownRefs_of_owner (p := Proc.scVector (cV L) (jV L)) (b := (Proc.scVector (cV L) (jV L)).devRef cc1_scratch2) rfl⟩⟩)]

set_option maxHeartbeats 4000000 in
/-- One tile's task, from its targets, its picked values and its row: it leaves in its row, lane by lane, the sum of its rows' terms. -/
theorem tile_body (hF : (K (F := F)).Facts) (O : CellTallies nD τ sig (HIx 1)) (W : Waits sig (HIx 1)) (hO : ∀ g, O g none = 0)
    (tb : Buf (Elt F) (tLoc d)) (gb : Buf (Elt F) (gLoc d)) (ob ov : Buf (Elt F) (oLoc d))
    (hov : (oM L).view.read (Elt F) ov = laneOut ((tM L).view.read (Elt F) tb) ((gM L).view.read (Elt F) gb)) :
    iprop(levAts (K (F := F)).L (K (F := F)).lev ∗ emp
        ∗ (tPts d L tb ∗ gPts d L gb ∗ oPts d L ob)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc1__sc_body L gV (Memref.isWhole_whole _) tV (Memref.isWhole_whole _) oV (Memref.isWhole_whole _)
            sT (Memref.isWhole_whole _) sG (Memref.isWhole_whole _) sA (Memref.isWhole_whole _) cc1_scratch3 cc1_scoped0 cc1_scoped1)
          fun _ => iprop((tPts d L tb ∗ gPts d L gb ∗ oPts d L ov)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Ht, Hg, Ho⟩, ⟨⟨%f0, Hs⟩, ⟨%f1, Hc⟩, ⟨%f2, Hu⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ht' := (show tPts d L tb ⊢ ((tM L).view.loc (V d (cV L) (jV L)) ↦[(tM L).view.set]{fullShare} tb : sProp 𝕄) from .rfl) $$ Ht
  ihave Hg' := (show gPts d L gb ⊢ ((gM L).view.loc (V d (cV L) (jV L)) ↦[(gM L).view.set]{fullShare} gb : sProp 𝕄) from .rfl) $$ Hg
  ihave Ho' := (show oPts d L ob ⊢ ((oM L).view.loc (V d (cV L) (jV L)) ↦[(oM L).view.set]{fullShare} ob : sProp 𝕄) from .rfl) $$ Ho
  ihave Hs' := (show ((V d (cV L) (jV L)).loc cc1_scratch0 ↦{fullShare} f0 : sProp 𝕄) ⊢ ((sT).view.loc (V d (cV L) (jV L)) ↦{fullShare} f0 : sProp 𝕄) from .rfl) $$ Hs
  ihave Hc' := (show ((V d (cV L) (jV L)).loc cc1_scratch1 ↦{fullShare} f1 : sProp 𝕄) ⊢ ((sG).view.loc (V d (cV L) (jV L)) ↦{fullShare} f1 : sProp 𝕄) from .rfl) $$ Hc
  ihave Hu' := (show ((V d (cV L) (jV L)).loc cc1_scratch2 ↦{fullShare} f2 : sProp 𝕄) ⊢ ((sA).view.loc (V d (cV L) (jV L)) ↦{fullShare} f2 : sProp 𝕄) from .rfl) $$ Hu
  sl_unfold [cc1__sc_body]
  sl_exec (disch := exact View.amount_pos _ _ (show 0 < S512.numel by decide))
  sl_step
  have dma66_eq : tile_body.sl.dma66 d L tb gb f0 f2 = laneOut ((tM L).view.read (Elt F) tb) ((gM L).view.read (Elt F) gb) := by
    have e1 : tile_body.sl.dma66 d L tb gb f0 f2 = _ := View.read_writes_full (s := S16) (sA).view f2 (fun a => by match a with | 0 => decide) _ []
    rw [e1, ← tileRaw_chunk]
    refine Eq.trans ?_ (congrArg₂ tileRaw (funext fun n => funext fun h => load_sT f0 (tile_body.sl.dma0 d L tb) n h)
      (funext fun n => funext fun h => load_sG (tile_body.sl.dma0_1 d L gb) inb_S512_S512_0 n h))
    rfl
  isplitl [Ht' Hg' Ho']
  · isplitl [Ht']; · iexact Ht'
    isplitl [Hg']; · iexact Hg'
    rw [show (oPts d L ov : sProp 𝕄) = ((oM L).view.loc (V d (cV L) (jV L)) ↦[(oM L).view.set]{fullShare}
        (oM L).view.writes (Elt F) ob [⟨Rect.whole S16, tile_body.sl.dma66 d L tb gb f0 f2⟩] : sProp 𝕄) from
      pointsTo_congr fun i hi => by
        obtain ⟨x, -, rfl⟩ := Finset.mem_map.mp hi
        refine View.eq_of_read_eq ?_
        rw [hov, dma66_eq]
        exact (congrFun (View.read_writes_full (oM L).view ob (off := fun _ => 0) (fun a => by omega) _ []) x).symm]
    iexact Ho'
  isplitl [Hs' Hc' Hu' Hbufs]
  · isplitl [Hs']; · iexists _; iexact Hs'
    isplitl [Hc']; · iexists _; iexact Hc'
    isplitl [Hu']; · iexists _; iexact Hu'
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p _
  rcases p.2 with _ | q
  · exact .inr (.inl rfl)
  · exact .inr (.inr (congrArg some (Subsingleton.elim q 0)))

end Tile

end Cert.KernelIdeal.Proof

end
-- ==== Proof.CallIdeal.lean ====
/-
  The SparseCores' call of the idealized kernel: how its three arrays are dealt to the 32 tiles, and what the call
  leaves in the array of partial sums.
-/
module

public import proofs.«01_k».proof.Proof.TileIdeal

@[expose] public section

noncomputable section

namespace Cert.KernelIdeal.Proof

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "gV" => (Memref.whole Cert.KernelIdeal.main_v2_scv : Memref Cert.KernelIdeal.sig Kind.scVector Space.hbm Cert.KernelIdeal.S16384 EltTy.f32)
local notation "tV" => (Memref.whole Cert.KernelIdeal.main_arg1_scv : Memref Cert.KernelIdeal.sig Kind.scVector Space.hbm Cert.KernelIdeal.S16384 EltTy.i32)
local notation "oV" => (Memref.whole Cert.KernelIdeal.main_v3_scv : Memref Cert.KernelIdeal.sig Kind.scVector Space.hbm Cert.KernelIdeal.S32x16 EltTy.f32)
local notation "sT" => (Memref.whole Cert.KernelIdeal.cc1_scratch0 : Memref Cert.KernelIdeal.sig Kind.scVector Space.vmem Cert.KernelIdeal.S512 EltTy.i32)
local notation "sG" => (Memref.whole Cert.KernelIdeal.cc1_scratch1 : Memref Cert.KernelIdeal.sig Kind.scVector Space.vmem Cert.KernelIdeal.S512 EltTy.f32)
local notation "sA" => (Memref.whole Cert.KernelIdeal.cc1_scratch2 : Memref Cert.KernelIdeal.sig Kind.scVector Space.vmem Cert.KernelIdeal.S16 EltTy.f32)

/-! ## Where a tile's pieces lie -/

/-- The point of the call's grid at SparseCore `c`, subcore `s`. -/
def tileAt (c : Fin 2) (s : Fin 16) : grid1.Coords :=
  fun | 0 => c | 1 => s | ⟨_ + 2, h⟩ => absurd h (Nat.not_lt.2 (Nat.le_add_left _ _))

/-- A tile's number: twice its subcore plus its SparseCore. -/
def wid (L : grid1.Coords) : ℕ := 2 * (L 1).val + (L 0).val

theorem wid_lt : ∀ L : grid1.Coords, wid L < 32 := by decide +kernel
/-- Tile `w` reads the targets from row `512 w` on. -/
theorem off1_closed : ∀ L : grid1.Coords, k1_off1 L 0 = wid L * 512 := by decide +kernel
/-- Tile `w` reads the picked values of the same rows, which lie in the order of the TensorCore's windows. -/
theorem off2_closed : ∀ L : grid1.Coords, k1_off2 L 0 = (wid L % 8 * 4 + wid L / 8) * 512 := by decide +kernel
theorem off3_closed (L : grid1.Coords) : k1_off3 L = ![wid L, 0] := k1_off3_eq L

/-- Row `n` of the flat arrays. -/
def ix1 (n : ℕ) : S16384.Idx := fun | 0 => ⟨n % 16384, Nat.mod_lt _ (by decide)⟩

/-- The 512 rows from row `n` on. -/
def rowsAt {α : Type} (x : S16384.Idx → α) (n : ℕ) : S512.Idx → α := fun p => x (ix1 (n + (p 0).val))

/-- The array of partial sums the call leaves: row `w` is tile `w`'s lanes. -/
def sums (tv : Vec F S16384 .i32) (gv : Vec F S16384 .f32) : Vec F S32x16 .f32 :=
  fun i => laneOut (rowsAt tv ((i 0).val * 512)) (rowsAt gv (((i 0).val % 8 * 4 + (i 0).val / 8) * 512)) (fun | 0 => i 1)

omit [FloatOps F] [Named F] in
theorem read_tM (L : grid1.Coords) (f : Vec F S16384 .i32) : (tM L).view.read (Elt F) f = rowsAt f (wid L * 512) := by
  funext p
  refine congrArg f (funext fun a => ?_)
  have ha : a = 0 := Subsingleton.elim (α := Fin 1) _ _
  subst ha
  refine Fin.ext ?_
  have h0 := k1_off1_inb L 0
  have hp : (p 0).val < 512 := (p 0).isLt
  show k1_off1 L 0 + 1 * (p 0).val = (wid L * 512 + (p 0).val) % 16384
  have h0' : k1_off1 L 0 + 512 ≤ 16384 := h0
  rw [off1_closed] at h0' ⊢
  omega

omit [FloatOps F] [Named F] in
theorem read_gM (L : grid1.Coords) (f : Vec F S16384 .f32) : (gM L).view.read (Elt F) f = rowsAt f ((wid L % 8 * 4 + wid L / 8) * 512) := by
  funext p
  refine congrArg f (funext fun a => ?_)
  have ha : a = 0 := Subsingleton.elim (α := Fin 1) _ _
  subst ha
  refine Fin.ext ?_
  have h0 := k1_off2_inb L 0
  have hp : (p 0).val < 512 := (p 0).isLt
  show k1_off2 L 0 + 1 * (p 0).val = ((wid L % 8 * 4 + wid L / 8) * 512 + (p 0).val) % 16384
  have h0' : k1_off2 L 0 + 512 ≤ 16384 := h0
  rw [off2_closed] at h0' ⊢
  omega

/-- Where lane `l` of tile `L`'s row lies. -/
def lanePos (L : grid1.Coords) (l : S16.Idx) : S32x16.Idx := fun | 0 => ⟨wid L, wid_lt L⟩ | 1 => l 0

theorem squeeze_pos : ∀ l : S16.Idx, (Shape.reshapeEquiv (squeezes_S1x16_S16.numel_eq) l 0).val = 0 ∧ (Shape.reshapeEquiv (squeezes_S1x16_S16.numel_eq) l 1).val = (l 0).val := by
  decide +kernel

omit [FloatOps F] [Named F] in
theorem read_oM_apply (L : grid1.Coords) (f : Vec F S32x16 .f32) (l : S16.Idx) : (oM L).view.read (Elt F) f l = f (lanePos L l) := by
  refine congrArg f (funext fun a => Fin.ext ?_)
  obtain ⟨e0, e1⟩ := squeeze_pos l
  match a with
  | 0 =>
    show k1_off3 L 0 + 1 * (Shape.reshapeEquiv (squeezes_S1x16_S16.numel_eq) l 0).val = wid L
    rw [e0, off3_closed]; rfl
  | 1 =>
    show k1_off3 L 1 + 1 * (Shape.reshapeEquiv (squeezes_S1x16_S16.numel_eq) l 1).val = (l 0).val
    rw [e1, off3_closed]; show 0 + 1 * (l 0).val = _; omega

theorem read_oM (L : grid1.Coords) (tv : Vec F S16384 .i32) (gv : Vec F S16384 .f32) :
    (oM L).view.read (Elt F) (sums tv gv) = laneOut ((tM L).view.read (Elt F) tv) ((gM L).view.read (Elt F) gv) := by
  rw [read_tM, read_gM]
  funext l
  have e : (fun | 0 => lanePos L l 1 : S16.Idx) = l := Shape.idx1_ext rfl
  have e' : sums tv gv (lanePos L l) = laneOut (rowsAt tv (wid L * 512)) (rowsAt gv ((wid L % 8 * 4 + wid L / 8) * 512)) (fun | 0 => lanePos L l 1) := by
    unfold sums; rfl
  rw [e] at e'
  exact (read_oM_apply L (sums tv gv) l).trans e'

/-! ## The arrays, dealt to the tiles -/

/-- The rows tile `L` reads of the targets. -/
theorem mem_tM (L : grid1.Coords) (x : S16384.Idx) : x ∈ (tM L).view.set ↔ wid L * 512 ≤ (x 0).val ∧ (x 0).val < wid L * 512 + 512 := by
  show x ∈ ((View.whole (main_arg1_scv : Ref sig .scVector)).slice (Rect.unit (s := S16384) (k1_off1 L) S512.size (k1_off1_inb L))).set ↔ _
  rw [View.set_slice_whole, Rect.mem_set_unit, ← off1_closed]
  exact ⟨fun h => h 0, fun h a => by obtain rfl : a = 0 := Subsingleton.elim (α := Fin 1) _ _; exact h⟩

/-- The rows tile `L` reads of the picked values. -/
theorem mem_gM (L : grid1.Coords) (x : S16384.Idx) : x ∈ (gM L).view.set
    ↔ (wid L % 8 * 4 + wid L / 8) * 512 ≤ (x 0).val ∧ (x 0).val < (wid L % 8 * 4 + wid L / 8) * 512 + 512 := by
  show x ∈ ((View.whole (main_v2_scv : Ref sig .scVector)).slice (Rect.unit (s := S16384) (k1_off2 L) S512.size (k1_off2_inb L))).set ↔ _
  rw [View.set_slice_whole, Rect.mem_set_unit, ← off2_closed]
  exact ⟨fun h => h 0, fun h a => by obtain rfl : a = 0 := Subsingleton.elim (α := Fin 1) _ _; exact h⟩

/-- The row tile `L` writes of the partial sums. -/
theorem mem_oM (L : grid1.Coords) (x : S32x16.Idx) : x ∈ (oM L).view.set ↔ (x 0).val = wid L := by
  show x ∈ (((View.whole (main_v3_scv : Ref sig .scVector)).slice (Rect.unit (s := S32x16) (k1_off3 L) S1x16.size (k1_off3_inb L))).reshape S16 squeezes_S1x16_S16.numel_eq).set ↔ _
  rw [View.set_reshape, View.set_slice_whole, Rect.mem_set_unit]
  have h0 : k1_off3 L 0 = wid L := by rw [off3_closed]; rfl
  have h1 : k1_off3 L 1 = 0 := by rw [off3_closed]; rfl
  have hx : (x 1).val < 16 := (x 1).isLt
  constructor
  · intro h
    have := h 0
    rw [h0] at this
    have h2 : wid L ≤ (x 0).val ∧ (x 0).val < wid L + 1 := this
    omega
  · intro h a
    match a with
    | 0 => rw [h0]; show wid L ≤ (x 0).val ∧ (x 0).val < wid L + 1; omega
    | 1 => rw [h1]; show 0 ≤ (x 1).val ∧ (x 1).val < 0 + 16; omega

/-- Two tiles of one number are one. -/
theorem tile_inj (p q : Fin 2 × Fin 16) (h : wid (tileAt p.1 p.2) = wid (tileAt q.1 q.2)) : p = q := by
  have hp := p.1.isLt
  have hq := q.1.isLt
  have h' : 2 * p.2.val + p.1.val = 2 * q.2.val + q.1.val := h
  exact Prod.ext (Fin.ext (by omega)) (Fin.ext (by omega))

/-- Every number below 32 is some tile's. -/
theorem tile_onto (n : ℕ) (h : n < 32) : ∃ p : Fin 2 × Fin 16, wid (tileAt p.1 p.2) = n :=
  ⟨(⟨n % 2, by omega⟩, ⟨n / 2, by omega⟩), show 2 * (n / 2) + n % 2 = n by omega⟩

/-- The targets whole are the tiles' rows of them. -/
theorem tPts_deal (d : Dev nD) (f : Buf (Elt F) (tLoc d)) :
    (tLoc d ↦{fullShare} f : sProp 𝕄) = bigSep Finset.univ fun c : Fin 2 => bigSep Finset.univ fun i : Fin 16 => tPts d (tileAt c i) f := by
  refine Eq.trans ?_ (bigSep_univ_prod (Φ := fun p : Fin 2 × Fin 16 => (tPts d (tileAt p.1 p.2) f : sProp 𝕄)))
  rw [← pointsTo_biUnion Finset.univ (ℓ := tLoc d) (fun p : Fin 2 × Fin 16 => (tM (tileAt p.1 p.2)).view.set)]
  · refine congrArg (fun S => (tLoc d ↦[S]{fullShare} f : sProp 𝕄)) (Finset.eq_univ_iff_forall.mpr fun x => ?_).symm
    have hx : (x 0).val < 16384 := (x 0).isLt
    obtain ⟨p, hp⟩ := tile_onto ((x 0).val / 512) (by omega)
    exact Finset.mem_biUnion.mpr ⟨p, Finset.mem_univ _, (mem_tM _ x).mpr (by rw [hp]; omega)⟩
  · intro p _ q _ hne
    refine Finset.disjoint_left.mpr fun x h h' => hne (tile_inj p q ?_)
    have := (mem_tM _ x).mp h
    have := (mem_tM _ x).mp h'
    omega

/-- The picked values whole are the tiles' rows of them. -/
theorem gPts_deal (d : Dev nD) (f : Buf (Elt F) (gLoc d)) :
    (gLoc d ↦{fullShare} f : sProp 𝕄) = bigSep Finset.univ fun c : Fin 2 => bigSep Finset.univ fun i : Fin 16 => gPts d (tileAt c i) f := by
  refine Eq.trans ?_ (bigSep_univ_prod (Φ := fun p : Fin 2 × Fin 16 => (gPts d (tileAt p.1 p.2) f : sProp 𝕄)))
  rw [← pointsTo_biUnion Finset.univ (ℓ := gLoc d) (fun p : Fin 2 × Fin 16 => (gM (tileAt p.1 p.2)).view.set)]
  · refine congrArg (fun S => (gLoc d ↦[S]{fullShare} f : sProp 𝕄)) (Finset.eq_univ_iff_forall.mpr fun x => ?_).symm
    have hx : (x 0).val < 16384 := (x 0).isLt
    obtain ⟨p, hp⟩ := tile_onto ((x 0).val / 512 % 4 * 8 + (x 0).val / 512 / 4) (by omega)
    exact Finset.mem_biUnion.mpr ⟨p, Finset.mem_univ _, (mem_gM _ x).mpr (by rw [hp]; omega)⟩
  · intro p _ q _ hne
    refine Finset.disjoint_left.mpr fun x h h' => hne (tile_inj p q ?_)
    have := (mem_gM _ x).mp h
    have := (mem_gM _ x).mp h'
    have := wid_lt (tileAt p.1 p.2)
    have := wid_lt (tileAt q.1 q.2)
    omega

/-- The partial sums whole are the tiles' rows of them. -/
theorem oPts_deal (d : Dev nD) (f : Buf (Elt F) (oLoc d)) :
    (oLoc d ↦{fullShare} f : sProp 𝕄) = bigSep Finset.univ fun c : Fin 2 => bigSep Finset.univ fun i : Fin 16 => oPts d (tileAt c i) f := by
  refine Eq.trans ?_ (bigSep_univ_prod (Φ := fun p : Fin 2 × Fin 16 => (oPts d (tileAt p.1 p.2) f : sProp 𝕄)))
  rw [← pointsTo_biUnion Finset.univ (ℓ := oLoc d) (fun p : Fin 2 × Fin 16 => (oM (tileAt p.1 p.2)).view.set)]
  · refine congrArg (fun S => (oLoc d ↦[S]{fullShare} f : sProp 𝕄)) (Finset.eq_univ_iff_forall.mpr fun x => ?_).symm
    obtain ⟨p, hp⟩ := tile_onto (x 0).val (x 0).isLt
    exact Finset.mem_biUnion.mpr ⟨p, Finset.mem_univ _, (mem_oM _ x).mpr hp.symm⟩
  · intro p _ q _ hne
    refine Finset.disjoint_left.mpr fun x h h' => hne (tile_inj p q ?_)
    rw [← (mem_oM _ x).mp h, ← (mem_oM _ x).mp h']

/-! ## What the handshakes carry -/

section Call

variable (tb : (d : Dev nD) → Buf (Elt F) (tLoc d)) (gb : (d : Dev nD) → Buf (Elt F) (gLoc d)) (ob : (d : Dev nD) → Buf (Elt F) (oLoc d))

/-- A tile's pieces of the three arrays, the sums at `f`. -/
abbrev piece (d : Dev nD) (L : grid1.Coords) (f : Buf (Elt F) (oLoc d)) : sProp 𝕄 := iprop(tPts d L (tb d) ∗ gPts d L (gb d) ∗ oPts d L f)
/-- The tile of SparseCore `c` and subcore `i` of the call. -/
abbrev tileK (c : Fin ((K (F := F)).nCore 0)) (i : Fin ((K (F := F)).nSub 0)) : grid1.Coords := tileAt (Fin.cast nCore_zero c) (Fin.cast nSub_zero i)

/-- The call hands each SparseCore its sixteen tiles' pieces, the partial sums at `ob`, and takes them back with the sums in place. -/
def P : (K (F := F)).Pay (nD := nD) (Val := Elt F) (Name := ℕ) (U := UU) where
  st := fun q d c => match q with | 0 => bigSep Finset.univ fun i : Fin ((K (F := F)).nSub 0) => piece tb gb d (tileK c i) (ob d)
  dn := fun q d c => match q with | 0 => bigSep Finset.univ fun i : Fin ((K (F := F)).nSub 0) => piece tb gb d (tileK c i) (sums (tb d) (gb d))
  go := fun q d c i => match q with | 0 => piece tb gb d (tileK c i) (ob d)
  td := fun q d c i => match q with | 0 => piece tb gb d (tileK c i) (sums (tb d) (gb d))
  x := fun _ _ => iprop(emp)

instance P_storable : (P (F := F) tb gb ob).IsStorable where
  st q d c := match q with
    | 0 => (inferInstance : BI.Storable (upEmb : UEmb _ 𝕄) (bigSep Finset.univ fun i : Fin ((K (F := F)).nSub 0) => piece tb gb d (tileK c i) (ob d)))
  dn q d c := match q with
    | 0 => (inferInstance : BI.Storable (upEmb : UEmb _ 𝕄) (bigSep Finset.univ fun i : Fin ((K (F := F)).nSub 0) => piece tb gb d (tileK c i) (sums (tb d) (gb d))))
  go q d c i := match q with | 0 => (inferInstance : BI.Storable (upEmb : UEmb _ 𝕄) (piece tb gb d (tileK c i) (ob d)))
  td q d c i := match q with | 0 => (inferInstance : BI.Storable (upEmb : UEmb _ 𝕄) (piece tb gb d (tileK c i) (sums (tb d) (gb d))))

/-- A SparseCore's pieces are its tiles' already. -/
theorem vecSplit : (K (F := F)).VecSplit' (P tb gb ob) 0 := by
  intro d c
  show (bigSep Finset.univ fun i : Fin ((K (F := F)).nSub 0) => piece tb gb d (tileK c i) (ob d)) ⊢ |={Set.univ}=> iprop(
      (bigSep Finset.univ fun i : Fin ((K (F := F)).nSub 0) => piece tb gb d (tileK c i) (ob d))
      ∗ ((bigSep Finset.univ fun i : Fin ((K (F := F)).nSub 0) => piece tb gb d (tileK c i) (sums (tb d) (gb d)))
        -∗ (bigSep Finset.univ fun i : Fin ((K (F := F)).nSub 0) => piece tb gb d (tileK c i) (sums (tb d) (gb d)))))
  iintro H; imodintro
  isplitl [H]; · iexact H
  iintro H; iexact H

/-! ## A tile's task -/

theorem defs₀_vector (c : Fin τ.nSC) (s : Fin τ.nSub) :
    defs₀ (F := F) (.scVector c s) 1 ()
      = SparseCore.onTile hcore1 hsub1 (fun c s => cc1__sc_body (tileAt c s) gV (Memref.isWhole_whole _) tV (Memref.isWhole_whole _) oV (Memref.isWhole_whole _)
          sT (Memref.isWhole_whole _) sG (Memref.isWhole_whole _) sA (Memref.isWhole_whole _) cc1_scratch3 cc1_scoped0 cc1_scoped1) ⟨⟩ c s := rfl

/-- Every tile of the call does its task. -/
theorem tileObl (hF : (K (F := F)).Facts) : (K (F := F)).TileObl (D (F := F)) 𝒱 (P tb gb ob) v₀ 0 := by
  intro d c i O W hO _ _
  simp only [show (P tb gb ob).ox = fun _ _ => 0 from rfl, add_zero]
  have hci : ((K (F := F)).core 0 c).val < grid1.bound 0 ∧ ((K (F := F)).sub 0 i).val < grid1.bound 1 := ⟨c.isLt, i.isLt⟩
  change _ ⊢ wp _ _ _ (Pipeline.liftProg (defs₀ (F := F) (.scVector ((K (F := F)).core 0 c) ((K (F := F)).sub 0 i)) 1 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body d (tileAt ⟨_, hci.1⟩ ⟨_, hci.2⟩) hF O W hO (tb d) (gb d) (ob d) (sums (tb d) (gb d)) (read_oM _ _ _)

/-- What the call takes: the three arrays whole. -/
theorem st0_eq (d : Dev nD) : (bigSep Finset.univ fun c : Fin ((K (F := F)).nCore 0) => (P tb gb ob).st 0 d c)
    = iprop((tLoc d ↦{fullShare} tb d) ∗ (gLoc d ↦{fullShare} gb d) ∗ (oLoc d ↦{fullShare} ob d)) := by
  rw [tPts_deal, gPts_deal, oPts_deal, ← bigSep_sep', ← bigSep_sep']
  refine bigSep_congr fun c _ => ?_
  rw [← bigSep_sep', ← bigSep_sep']
  rfl

/-- What the call brings back: the targets and the picked values as they were, and the sums. -/
theorem dn0_eq (d : Dev nD) : (bigSep Finset.univ fun c : Fin ((K (F := F)).nCore 0) => (P tb gb ob).dn 0 d c)
    = iprop((tLoc d ↦{fullShare} tb d) ∗ (gLoc d ↦{fullShare} gb d) ∗ (oLoc d ↦{fullShare} (sums (tb d) (gb d) : Buf (Elt F) (oLoc d)))) := by
  rw [tPts_deal, gPts_deal, oPts_deal, ← bigSep_sep', ← bigSep_sep']
  refine bigSep_congr fun c _ => ?_
  rw [← bigSep_sep', ← bigSep_sep']
  rfl

end Call

end Cert.KernelIdeal.Proof

end
-- ==== Proof.BlockIdeal.lean ====
/-
  The TensorCore's call of the idealized kernel: what one grid point of it computes, as a function of the blocks it
  reads, and the run of its body.
-/
module

public import proofs.«01_k».proof.Proof.CallIdeal
public import proofs.«01_k».proof.Proof.Gen.KernelIdeal.Launch
public import proofs.«01_k».proof.Proof.Gen.KernelIdeal.Points

@[expose] public section

noncomputable section

namespace Cert.KernelIdeal.Proof

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig (HIx 1) (Elt F) ℕ UU ℕ

/-! ## What one grid point computes -/

/-- The part of a block's sum that its first three slices have added up. -/
def lead (x0 : Vec F S512x2891 .f32) (t0 : Vec F S1x1x512 .i32) (x1 : Vec F S512x2891 .f32) (t1 : Vec F S1x1x512 .i32)
    (x2 : Vec F S512x2891 .f32) (t2 : Vec F S1x1x512 .i32) : F .f32 :=
  k0_pay12 (k0_pay6 x0 t0) (k0_pay9 x1 t1) x2 t2

/-- What the first grid point leaves in the accumulator. -/
def accFirst (x0 : Vec F S512x2891 .f32) (t0 : Vec F S1x1x512 .i32) (x1 : Vec F S512x2891 .f32) (t1 : Vec F S1x1x512 .i32)
    (x2 : Vec F S512x2891 .f32) (t2 : Vec F S1x1x512 .i32) (x3 : Vec F S512x2891 .f32) (t3 : Vec F S1x1x512 .i32) : Vec F S1x1 .f32 :=
  k0_pay3 (lead x0 t0 x1 t1 x2 t2) (k0_pay15 t3) (k0_pay16 x3) (k0_pay17 x3)

/-- What a later grid point leaves in the accumulator that held `a`. -/
def accNext (x0 : Vec F S512x2891 .f32) (t0 : Vec F S1x1x512 .i32) (x1 : Vec F S512x2891 .f32) (t1 : Vec F S1x1x512 .i32)
    (x2 : Vec F S512x2891 .f32) (t2 : Vec F S1x1x512 .i32) (x3 : Vec F S512x2891 .f32) (t3 : Vec F S1x1x512 .i32) (a : Vec F S1x1 .f32) : Vec F S1x1 .f32 :=
  k0_pay4 (lead x0 t0 x1 t1 x2 t2) (k0_pay15 t3) (k0_pay16 x3) (k0_pay17 x3) a

/-- The picked entries of a block's rows, slice after slice. -/
def picks (x0 : Vec F S512x2891 .f32) (t0 : Vec F S1x1x512 .i32) (x1 : Vec F S512x2891 .f32) (t1 : Vec F S1x1x512 .i32)
    (x2 : Vec F S512x2891 .f32) (t2 : Vec F S1x1x512 .i32) (x3 : Vec F S512x2891 .f32) (t3 : Vec F S1x1x512 .i32) : Vec F S1x1x2048 .f32 :=
  k0_pay2 (k0_pay7 x0 t0) (k0_pay10 x1 (k0_pay8 t1)) (k0_pay13 x2 t2) x3 (k0_pay14 t3)

/-! ## The body's run -/

section
variable (c : Dev nD) (i : grid0.Coords)
  (M1 : Memref sig .tc .vmem S512x2891 .f32) (h1 : M1.IsWhole) (M2 : Memref sig .tc .vmem S512x2891 .f32) (h2 : M2.IsWhole)
  (M3 : Memref sig .tc .vmem S512x2891 .f32) (h3 : M3.IsWhole) (M4 : Memref sig .tc .vmem S512x2891 .f32) (h4 : M4.IsWhole)
  (M5 : Memref sig .tc .vmem S1x1x512 .i32) (h5 : M5.IsWhole) (M6 : Memref sig .tc .vmem S1x1x512 .i32) (h6 : M6.IsWhole)
  (M7 : Memref sig .tc .vmem S1x1x512 .i32) (h7 : M7.IsWhole) (M8 : Memref sig .tc .vmem S1x1x512 .i32) (h8 : M8.IsWhole)
  (M9 : Memref sig .tc .vmem S1x1 .f32) (h9 : M9.IsWhole) (M10 : Memref sig .tc .vmem S1x1x2048 .f32) (h10 : M10.IsWhole)
  (x0 x1 x2 x3 : Vec F S512x2891 .f32) (t0 t1 t2 t3 : Vec F S1x1x512 .i32)

/-- The eight input blocks held at what they read as. -/
def ins : sProp 𝕄 :=
  iprop(owns (c : Thread nD τ) M1 fullShare x0 ∗ owns (c : Thread nD τ) M2 fullShare x1 ∗ owns (c : Thread nD τ) M3 fullShare x2 ∗ owns (c : Thread nD τ) M4 fullShare x3
    ∗ owns (c : Thread nD τ) M5 fullShare t0 ∗ owns (c : Thread nD τ) M6 fullShare t1 ∗ owns (c : Thread nD τ) M7 fullShare t2 ∗ owns (c : Thread nD τ) M8 fullShare t3)

set_option maxHeartbeats 1000000 in
/-- The body at the first grid point: the accumulator, whatever it held, is left at the block's sum, and the picks'
    buffer at the block's picks. -/
theorem body_first (hc1 : k0_cond1 i = 1#1) (hc2 : ¬ k0_cond2 i = 1#1) (a : Vec F S1x1 .f32) (g : Vec F S1x1x2048 .f32) (E : Set ℕ) (Q : PUnit → sProp 𝕄) :
    iprop(ins c M1 M2 M3 M4 M5 M6 M7 M8 x0 x1 x2 x3 t0 t1 t2 t3 ∗ owns (c : Thread nD τ) M9 fullShare a ∗ owns (c : Thread nD τ) M10 fullShare g
        ∗ (iprop(ins c M1 M2 M3 M4 M5 M6 M7 M8 x0 x1 x2 x3 t0 t1 t2 t3 ∗ owns (c : Thread nD τ) M9 fullShare (accFirst x0 t0 x1 t1 x2 t2 x3 t3)
            ∗ owns (c : Thread nD τ) M10 fullShare (picks x0 t0 x1 t1 x2 t2 x3 t3)) -∗ Q ⟨⟩))
      ⊢ wp frame (wpE (defs₀ (F := F)) Variants.none (c : Thread nD τ) none) E
          (cc0__tc_body i M1 h1 M2 h2 M3 h3 M4 h4 M5 h5 M6 h6 M7 h7 M8 h8 M9 h9 M10 h10) Q := by
  unfold ins owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%f9, %e9, H9⟩, ⟨%f10, %e10, H10⟩, Hk⟩
  have r1 := (View.readAt_full M1.view f1 inb_S512x2891_S512x2891_0_0).trans e1
  have r2 := (View.readAt_full M2.view f2 inb_S512x2891_S512x2891_0_0).trans e2
  have r3 := (View.readAt_full M3.view f3 inb_S512x2891_S512x2891_0_0).trans e3
  have r4 := (View.readAt_full M4.view f4 inb_S512x2891_S512x2891_0_0).trans e4
  have r5 := (View.readAt_full M5.view f5 inb_S1x1x512_S1x1x512_0_0_0).trans e5
  have r6 := (View.readAt_full M6.view f6 inb_S1x1x512_S1x1x512_0_0_0).trans e6
  have r7 := (View.readAt_full M7.view f7 inb_S1x1x512_S1x1x512_0_0_0).trans e7
  have r8 := (View.readAt_full M8.view f8 inb_S1x1x512_S1x1x512_0_0_0).trans e8
  sl_unfold [cc0__tc_body]
  sl_exec (disch := first | exact hc1 | exact hc2)
  sl_step
  iapply Hk
  isplitl [H1 H2 H3 H4 H5 H6 H7 H8]
  · isplitl [H1]; · iexists f1; isplitr; (· ipureintro; exact e1); iexact H1
    isplitl [H2]; · iexists f2; isplitr; (· ipureintro; exact e2); iexact H2
    isplitl [H3]; · iexists f3; isplitr; (· ipureintro; exact e3); iexact H3
    isplitl [H4]; · iexists f4; isplitr; (· ipureintro; exact e4); iexact H4
    isplitl [H5]; · iexists f5; isplitr; (· ipureintro; exact e5); iexact H5
    isplitl [H6]; · iexists f6; isplitr; (· ipureintro; exact e6); iexact H6
    isplitl [H7]; · iexists f7; isplitr; (· ipureintro; exact e7); iexact H7
    iexists f8; isplitr; (· ipureintro; exact e8); iexact H8
  isplitl [H9]
  · iexists _; isplitr; swap; (· iexact H9)
    ipureintro
    rw [View.read_writes_full]
    sl_unfold_words
    rfl
  iexists _; isplitr; swap; (· iexact H10)
  ipureintro
  rw [View.read_writes_full]
  sl_unfold_words
  rfl

set_option maxHeartbeats 1000000 in
/-- The body at a later grid point: the block's sum is added to what the accumulator held. -/
theorem body_next (hc1 : ¬ k0_cond1 i = 1#1) (hc2 : k0_cond2 i = 1#1) (a : Vec F S1x1 .f32) (g : Vec F S1x1x2048 .f32) (E : Set ℕ) (Q : PUnit → sProp 𝕄) :
    iprop(ins c M1 M2 M3 M4 M5 M6 M7 M8 x0 x1 x2 x3 t0 t1 t2 t3 ∗ owns (c : Thread nD τ) M9 fullShare a ∗ owns (c : Thread nD τ) M10 fullShare g
        ∗ (iprop(ins c M1 M2 M3 M4 M5 M6 M7 M8 x0 x1 x2 x3 t0 t1 t2 t3 ∗ owns (c : Thread nD τ) M9 fullShare (accNext x0 t0 x1 t1 x2 t2 x3 t3 a)
            ∗ owns (c : Thread nD τ) M10 fullShare (picks x0 t0 x1 t1 x2 t2 x3 t3)) -∗ Q ⟨⟩))
      ⊢ wp frame (wpE (defs₀ (F := F)) Variants.none (c : Thread nD τ) none) E
          (cc0__tc_body i M1 h1 M2 h2 M3 h3 M4 h4 M5 h5 M6 h6 M7 h7 M8 h8 M9 h9 M10 h10) Q := by
  unfold ins owns
  iintro ⟨⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩⟩, ⟨%f9, %e9, H9⟩, ⟨%f10, %e10, H10⟩, Hk⟩
  have r1 := (View.readAt_full M1.view f1 inb_S512x2891_S512x2891_0_0).trans e1
  have r2 := (View.readAt_full M2.view f2 inb_S512x2891_S512x2891_0_0).trans e2
  have r3 := (View.readAt_full M3.view f3 inb_S512x2891_S512x2891_0_0).trans e3
  have r4 := (View.readAt_full M4.view f4 inb_S512x2891_S512x2891_0_0).trans e4
  have r5 := (View.readAt_full M5.view f5 inb_S1x1x512_S1x1x512_0_0_0).trans e5
  have r6 := (View.readAt_full M6.view f6 inb_S1x1x512_S1x1x512_0_0_0).trans e6
  have r7 := (View.readAt_full M7.view f7 inb_S1x1x512_S1x1x512_0_0_0).trans e7
  have r8 := (View.readAt_full M8.view f8 inb_S1x1x512_S1x1x512_0_0_0).trans e8
  have r9 := (View.readAt_full M9.view f9 inb_S1x1_S1x1_0_0).trans e9
  sl_unfold [cc0__tc_body]
  sl_exec (disch := first | exact hc1 | exact hc2)
  sl_step
  iapply Hk
  isplitl [H1 H2 H3 H4 H5 H6 H7 H8]
  · isplitl [H1]; · iexists f1; isplitr; (· ipureintro; exact e1); iexact H1
    isplitl [H2]; · iexists f2; isplitr; (· ipureintro; exact e2); iexact H2
    isplitl [H3]; · iexists f3; isplitr; (· ipureintro; exact e3); iexact H3
    isplitl [H4]; · iexists f4; isplitr; (· ipureintro; exact e4); iexact H4
    isplitl [H5]; · iexists f5; isplitr; (· ipureintro; exact e5); iexact H5
    isplitl [H6]; · iexists f6; isplitr; (· ipureintro; exact e6); iexact H6
    isplitl [H7]; · iexists f7; isplitr; (· ipureintro; exact e7); iexact H7
    iexists f8; isplitr; (· ipureintro; exact e8); iexact H8
  isplitl [H9]
  · iexists _; isplitr; swap; (· iexact H9)
    ipureintro
    rw [View.read_writes_full]
    sl_unfold_words
    rfl
  iexists _; isplitr; swap; (· iexact H10)
  ipureintro
  rw [View.read_writes_full]
  sl_unfold_words
  rfl

/-- Both together: the accumulator is left at `a'`. -/
theorem body_at (a a' : Vec F S1x1 .f32) (g : Vec F S1x1x2048 .f32)
    (h : (k0_cond1 i = 1#1 ∧ ¬ k0_cond2 i = 1#1 ∧ a' = accFirst x0 t0 x1 t1 x2 t2 x3 t3)
      ∨ (¬ k0_cond1 i = 1#1 ∧ k0_cond2 i = 1#1 ∧ a' = accNext x0 t0 x1 t1 x2 t2 x3 t3 a))
    (E : Set ℕ) (Q : PUnit → sProp 𝕄) :
    iprop(ins c M1 M2 M3 M4 M5 M6 M7 M8 x0 x1 x2 x3 t0 t1 t2 t3 ∗ owns (c : Thread nD τ) M9 fullShare a ∗ owns (c : Thread nD τ) M10 fullShare g
        ∗ (iprop(ins c M1 M2 M3 M4 M5 M6 M7 M8 x0 x1 x2 x3 t0 t1 t2 t3 ∗ owns (c : Thread nD τ) M9 fullShare a'
            ∗ owns (c : Thread nD τ) M10 fullShare (picks x0 t0 x1 t1 x2 t2 x3 t3)) -∗ Q ⟨⟩))
      ⊢ wp frame (wpE (defs₀ (F := F)) Variants.none (c : Thread nD τ) none) E
          (cc0__tc_body i M1 h1 M2 h2 M3 h3 M4 h4 M5 h5 M6 h6 M7 h7 M8 h8 M9 h9 M10 h10) Q := by
  rcases h with ⟨hc1, hc2, rfl⟩ | ⟨hc1, hc2, rfl⟩
  · exact body_first c i M1 h1 M2 h2 M3 h3 M4 h4 M5 h5 M6 h6 M7 h7 M8 h8 M9 h9 M10 h10 x0 x1 x2 x3 t0 t1 t2 t3 hc1 hc2 a g E Q
  · exact body_next c i M1 h1 M2 h2 M3 h3 M4 h4 M5 h5 M6 h6 M7 h7 M8 h8 M9 h9 M10 h10 x0 x1 x2 x3 t0 t1 t2 t3 hc1 hc2 a g E Q
end

end Cert.KernelIdeal.Proof

end
-- ==== Proof.RegionIdeal.lean ====
/-
  The TensorCore's call of the idealized kernel: its proof data, what each grid point leaves in the windows' buffers,
  and the call as a region of @main.
-/
module

public import proofs.«01_k».proof.Proof.BlockIdeal
public import Idealize.ShloMosaic.Lib.Pipeline.RegionsLoop

@[expose] public section

noncomputable section

namespace Cert.KernelIdeal.Proof

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat BodyObligation)

variable {F : FTy → Type} [FloatOps F] [Named F]

local notation "𝕄" => MT nD τ sig (HIx 1) (Elt F) ℕ UU ℕ

/-! ## The proof data of the call, entered at a valuation -/

variable (V : (c : Dev nD) → (b : Ref sig .tc) → Buf (Elt F) ((c : Thread nD τ).loc b))

/-- Input window 0's block at grid point `t`. -/
noncomputable def blk0 (c : Dev nD) (t : Fin cfg0.N) : Vec F S512x2891 .f32 := ((cfg0.win 0).blk t).view.read (Elt F) (V c main_arg0)
/-- Input window 1's block at grid point `t`. -/
noncomputable def blk1 (c : Dev nD) (t : Fin cfg0.N) : Vec F S512x2891 .f32 := ((cfg0.win 1).blk t).view.read (Elt F) (V c main_arg0)
/-- Input window 2's block at grid point `t`. -/
noncomputable def blk2 (c : Dev nD) (t : Fin cfg0.N) : Vec F S512x2891 .f32 := ((cfg0.win 2).blk t).view.read (Elt F) (V c main_arg0)
/-- Input window 3's block at grid point `t`. -/
noncomputable def blk3 (c : Dev nD) (t : Fin cfg0.N) : Vec F S512x2891 .f32 := ((cfg0.win 3).blk t).view.read (Elt F) (V c main_arg0)
/-- Input window 4's block at grid point `t`. -/
noncomputable def blk4 (c : Dev nD) (t : Fin cfg0.N) : Vec F S1x1x512 .i32 := ((cfg0.win 4).blk t).view.read (Elt F) (V c main_v0)
/-- Input window 5's block at grid point `t`. -/
noncomputable def blk5 (c : Dev nD) (t : Fin cfg0.N) : Vec F S1x1x512 .i32 := ((cfg0.win 5).blk t).view.read (Elt F) (V c main_v0)
/-- Input window 6's block at grid point `t`. -/
noncomputable def blk6 (c : Dev nD) (t : Fin cfg0.N) : Vec F S1x1x512 .i32 := ((cfg0.win 6).blk t).view.read (Elt F) (V c main_v0)
/-- Input window 7's block at grid point `t`. -/
noncomputable def blk7 (c : Dev nD) (t : Fin cfg0.N) : Vec F S1x1x512 .i32 := ((cfg0.win 7).blk t).view.read (Elt F) (V c main_v0)

/-- The accumulator after grid point `n`. -/
noncomputable def accAt (c : Dev nD) : (n : ℕ) → n < cfg0.N → Vec F S1x1 .f32
  | 0, h => accFirst (blk0 V c ⟨0, h⟩) (blk4 V c ⟨0, h⟩) (blk1 V c ⟨0, h⟩) (blk5 V c ⟨0, h⟩) (blk2 V c ⟨0, h⟩) (blk6 V c ⟨0, h⟩) (blk3 V c ⟨0, h⟩) (blk7 V c ⟨0, h⟩)
  | n + 1, h => accNext (blk0 V c ⟨n + 1, h⟩) (blk4 V c ⟨n + 1, h⟩) (blk1 V c ⟨n + 1, h⟩) (blk5 V c ⟨n + 1, h⟩) (blk2 V c ⟨n + 1, h⟩) (blk6 V c ⟨n + 1, h⟩) (blk3 V c ⟨n + 1, h⟩) (blk7 V c ⟨n + 1, h⟩) (accAt c n (Nat.lt_of_succ_lt h))

/-- The picks of grid point `t`. -/
noncomputable def picksAt (c : Dev nD) (t : Fin cfg0.N) : Vec F S1x1x2048 .f32 :=
  picks (blk0 V c t) (blk4 V c t) (blk1 V c t) (blk5 V c t) (blk2 V c t) (blk6 V c t) (blk3 V c t) (blk7 V c t)

/-- The call's proof data: the arrays as they stand at entry; after each grid point the input buffers at their blocks,
    the accumulator at its running sum and the picks' buffer at the point's picks. The core owes all along what its later
    SparseCore call will pay, and has recorded waits of level zero only. -/
def dat (c : Dev nD) : Dat τ (Elt F) (HIx 1) ℕ UU ℕ cfg0 c where
  A w := V c (Pipeline.arrRef spec0 w)
  after w t := match w with
    | ⟨0, _⟩ => blk0 V c t
    | ⟨1, _⟩ => blk1 V c t
    | ⟨2, _⟩ => blk2 V c t
    | ⟨3, _⟩ => blk3 V c t
    | ⟨4, _⟩ => blk4 V c t
    | ⟨5, _⟩ => blk5 V c t
    | ⟨6, _⟩ => blk6 V c t
    | ⟨7, _⟩ => blk7 V c t
    | ⟨8, _⟩ => accAt V c t.val t.isLt
    | ⟨9, _⟩ => picksAt V c t
  Φ _ := BI.emp
  q w := Pipeline.shareOf spec0 w
  owed _ := (K (F := F)).Otc c 0
  recorded _ := {p | (K (F := F)).lev ((c : Thread nD τ), p.1) p.2 ≤ 0}

/-! ## The body obligation -/

/-- The accumulator is set at the first grid point. -/
theorem cond1_iff : ∀ t : Fin grid0.N, k0_cond1 (grid0.coords t) = 1#1 ↔ t.val = 0 := by decide +kernel
/-- The accumulator is added to at every later point. -/
theorem cond2_iff : ∀ t : Fin grid0.N, k0_cond2 (grid0.coords t) = 1#1 ↔ t.val ≠ 0 := by decide +kernel
/-- So every point touches the accumulator. -/
theorem idle8 : ∀ i : cfg0.grid.Coords, cfg0.idle 8 i = false :=
  (by decide +kernel : ∀ i : grid0.Coords, idle0 8 i = false)

theorem before0 (c : Dev nD) (t : Fin cfg0.N) (d) : (dat V c).before 0 t d = blk0 V c t :=
  (Pipeline.Dat.before_fetched _ 0 t (fetch0_0 t) d).trans rfl
theorem before1 (c : Dev nD) (t : Fin cfg0.N) (d) : (dat V c).before 1 t d = blk1 V c t :=
  (Pipeline.Dat.before_fetched _ 1 t (fetch0_1 t) d).trans rfl
theorem before2 (c : Dev nD) (t : Fin cfg0.N) (d) : (dat V c).before 2 t d = blk2 V c t :=
  (Pipeline.Dat.before_fetched _ 2 t (fetch0_2 t) d).trans rfl
theorem before3 (c : Dev nD) (t : Fin cfg0.N) (d) : (dat V c).before 3 t d = blk3 V c t :=
  (Pipeline.Dat.before_fetched _ 3 t (fetch0_3 t) d).trans rfl
theorem before4 (c : Dev nD) (t : Fin cfg0.N) (d) : (dat V c).before 4 t d = blk4 V c t :=
  (Pipeline.Dat.before_fetched _ 4 t (fetch0_4 t) d).trans rfl
theorem before5 (c : Dev nD) (t : Fin cfg0.N) (d) : (dat V c).before 5 t d = blk5 V c t :=
  (Pipeline.Dat.before_fetched _ 5 t (fetch0_5 t) d).trans rfl
theorem before6 (c : Dev nD) (t : Fin cfg0.N) (d) : (dat V c).before 6 t d = blk6 V c t :=
  (Pipeline.Dat.before_fetched _ 6 t (fetch0_6 t) d).trans rfl
theorem before7 (c : Dev nD) (t : Fin cfg0.N) (d) : (dat V c).before 7 t d = blk7 V c t :=
  (Pipeline.Dat.before_fetched _ 7 t (fetch0_7 t) d).trans rfl
/-- The accumulator at a later point is as the point before left it. -/
theorem before8 (c : Dev nD) (n : ℕ) (h : n + 1 < cfg0.N) (d) : (dat V c).before 8 ⟨n + 1, h⟩ d = accAt V c n (Nat.lt_of_succ_lt h) :=
  (Pipeline.Dat.before_out_kept _ 8 rfl ⟨n + 1, h⟩ (Nat.succ_ne_zero n)
    (Bool.eq_false_iff.mpr fun hf => by have := (flush0_8 _).mp hf; have hN : cfg0.N = 8 := N_0; dsimp only at this; omega) idle8 (fun _ _ => rfl) d).trans rfl

/-- One point's step of the accumulator: set at the first point, added to at a later one. -/
theorem acc_step (c : Dev nD) (t : Fin cfg0.N) (d) :
    (k0_cond1 (grid0.coords t) = 1#1 ∧ ¬ k0_cond2 (grid0.coords t) = 1#1 ∧ accAt V c t.val t.isLt = accFirst (blk0 V c t) (blk4 V c t) (blk1 V c t) (blk5 V c t) (blk2 V c t) (blk6 V c t) (blk3 V c t) (blk7 V c t))
      ∨ (¬ k0_cond1 (grid0.coords t) = 1#1 ∧ k0_cond2 (grid0.coords t) = 1#1
        ∧ accAt V c t.val t.isLt = accNext (blk0 V c t) (blk4 V c t) (blk1 V c t) (blk5 V c t) (blk2 V c t) (blk6 V c t) (blk3 V c t) (blk7 V c t) ((dat V c).before 8 t d)) := by
  obtain ⟨n, hn⟩ := t
  cases n with
  | zero => exact .inl ⟨(cond1_iff ⟨0, hn⟩).mpr rfl, fun h => (cond2_iff ⟨0, hn⟩).mp h rfl, rfl⟩
  | succ n =>
    refine .inr ⟨fun h => Nat.succ_ne_zero n ((cond1_iff ⟨n + 1, hn⟩).mp h), (cond2_iff ⟨n + 1, hn⟩).mpr (Nat.succ_ne_zero n), ?_⟩
    rw [before8]
    rfl

/-- At every point the body takes the windows' buffers as the pipeline hands them and leaves them as the proof data say. -/
theorem body_obligation (c : Dev nD) : BodyObligation (dat V c) (defs₀ (F := F)) Variants.none (none : HIx 1) Set.univ := fun t => by
  rw [bigSep_W0, bigSep_W0]
  iintro ⟨HΦ, Howes, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  rw [before0, before1, before2, before3, before4, before5, before6, before7]
  iapply (body_at c (grid0.coords t) _ (hstage0_0 ((cfg0.slots t 0).cast nbuf0_0)) _ (hstage0_1 ((cfg0.slots t 1).cast nbuf0_1)) _ (hstage0_2 ((cfg0.slots t 2).cast nbuf0_2)) _ (hstage0_3 ((cfg0.slots t 3).cast nbuf0_3))
    _ (hstage0_4 ((cfg0.slots t 4).cast nbuf0_4)) _ (hstage0_5 ((cfg0.slots t 5).cast nbuf0_5)) _ (hstage0_6 ((cfg0.slots t 6).cast nbuf0_6)) _ (hstage0_7 ((cfg0.slots t 7).cast nbuf0_7))
    _ (hstage0_8 ((cfg0.slots t 8).cast nbuf0_8)) _ (hstage0_9 ((cfg0.slots t 9).cast nbuf0_9)) (blk0 V c t) (blk1 V c t) (blk2 V c t) (blk3 V c t) (blk4 V c t) (blk5 V c t) (blk6 V c t) (blk7 V c t)
    ((dat V c).before 8 t d8) (accAt V c t.val t.isLt) ((dat V c).before 9 t d9) (acc_step V c t d8) Set.univ _)
  unfold ins
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact H7
  isplitl [H8]; · iexact H8
  isplitl [H9]; · iexact H9
  iintro ⟨⟨H0, H1, H2, H3, H4, H5, H6, H7⟩, H8, H9⟩
  rw [show cfg0.idle 8 (cfg0.grid.coords t) = false from idle8 _, show (dat V c).Φ t.succ = (dat V c).Φ t.castSucc from rfl,
    show (dat V c).owesAt none t.succ = (dat V c).owesAt none t.castSucc from rfl]
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-! ## The call as a region of @main -/

variable (adm : (p : Fin 1) → (pcfgs (F := F) p).Adm)

/-- The proof data of the program's one pipeline. -/
def pdats : (p : Fin 1) → (c : Dev nD) → Dat τ (Elt F) (HIx 1) ℕ UU ℕ (Pipeline.pin (pcfgs (F := F)) adm p) c
  | ⟨0, _⟩ => fun c => dat V c

/-- Before its SparseCore call the core owes nothing at the index of its own waits. -/
theorem Otc_none (c : Dev nD) (g : GSem nD τ sig) : (K (F := F)).Otc (N := 1) c 0 g none = 0 := by
  unfold SparseCore.Cfg.Otc
  rw [Finset.sum_apply, Finsupp.finsetSum_apply]
  refine Finset.sum_eq_zero fun q _ => ?_
  split
  · rw [Finset.sum_apply, Finsupp.finsetSum_apply]
    refine Finset.sum_eq_zero fun k _ => ?_
    rw [tallyAt_apply, if_neg fun h => nomatch h.2]
  · rfl

/-- The windows other than the two results are inputs, on arrays other than theirs. -/
theorem inputs : ∀ w : Fin 10, w ≠ 8 → w ≠ 9 →
    (spec0 w).isOut = false ∧ Pipeline.arrRef spec0 w ≠ main_v1_0 ∧ Pipeline.arrRef spec0 w ≠ main_v1_1 := by decide

-- the valuation the call leaves: any that has the two results' arrays as the pipeline computes them and agrees with the
-- entry valuation elsewhere
variable (Vp : (c : Dev nD) → (b : Ref sig .tc) → Buf (Elt F) ((c : Thread nD τ).loc b))

/-- What the core owes at the call's two ends: the starts of its SparseCore call, with waits of level zero recorded. -/
abbrev duesAt (c : Dev nD) : sProp 𝕄 :=
  iprop(∃ W, ⌜(K (F := F)).WBelow (T c) W 0⌝ ∗ owes (T c) ((K (F := F)).Otc (N := 1) c 0) W)

set_option backward.isDefEq.respectTransparency.types false in
/-- The call as a region: entered with every unscoped buffer at `V`, left with every one at `Vp`. -/
def reg (h0 : ∀ c, Vp c main_v1_0 = (dat V c).arrAt 8 cfg0.N) (h1 : ∀ c, Vp c main_v1_1 = (dat V c).arrAt 9 cfg0.N)
    (hne : ∀ c (b : Ref sig .tc), b ≠ main_v1_0 → b ≠ main_v1_1 → Vp c b = V c b) :
    Pipeline.RegionSeg (pcfgs (F := F)) adm (pdats V adm) (none : HIx 1) defs₀ Variants.none (K (F := F)).L (K (F := F)).lev 0 where
  win := winFacts₀0
  block_pos := block_pos0
  stage_whole := stage_whole0
  K := PEmpty
  osem k := k.elim
  ho := Pipeline.OwnSemFacts.none _
  hbody c := (body_obligation V c).loose
  hwaits c := Pipeline.cellsWaits_intro (Pipeline.pin (pcfgs (F := F)) adm) (pdats V adm) (none : HIx 1) 0 c fun w s t =>
    (K (F := F)).mayWait_none _ (Otc_none c)
  pre c := iprop(unscopedBufs c (V c) ∗ duesAt c)
  post c := iprop(unscopedBufs c (Vp c) ∗ duesAt c)
  X _ := BI.emp
  Y _ := BI.emp
  Z c := Pipeline.unscopedRest (Ix := HIx 1) (Name := ℕ) (U := UU) (Lvl := ℕ) spec0 c (V c)
  hentry c := by
    rw [Pipeline.ownSems0_none]
    have hsplit := Pipeline.arrays_of_unscopedBufs_shared (p := 0) (pcfgs (F := F)) adm (pdats V adm) winFacts₀0 sharedIn0 arr_whole0 c
      (fun w _ => rfl) (V c) fun _ => rfl
    iintro ⟨⟨Hub, ⟨%W, %hW, HO⟩⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats V adm 0 c).Φ 0 = (BI.emp : sProp 𝕄) from rfl]
    iintro ⟨-, -, Hr⟩; iempintro
  hout c := by
    rw [Pipeline.ownSems0_none, show (pdats V adm 0 c).Φ (Fin.last _) = (BI.emp : sProp 𝕄) from rfl]
    iintro -
    isplitr; · iempintro
    isplitr; · iempintro
    iapply (Entails.of_eq (scopedRest0_eq c).symm)
    iempintro
  hexit c := by
    have hjoin := Pipeline.unscopedBufs_of_arrays_shared (p := 0) (pcfgs (F := F)) adm (Ix := HIx 1) (Name := ℕ) (U := UU) (Lvl := ℕ) winFacts₀0 sharedIn0 arr_whole0 c
      (pdats V adm) (fun w _ => rfl) (V c) (Vp c) ((pdats V adm 0 c).arrAt · cfg0.N)
      (fun w => by
        by_cases h8 : w = (8 : Fin 10)
        · subst h8; exact (h0 c).symm
        by_cases h9 : w = (9 : Fin 10)
        · subst h9; exact (h1 c).symm
        refine ((pdats V adm 0 c).arrAt_in w (inputs w h8 h9).1 _).trans (hne c _ (inputs w h8 h9).2.1 (inputs w h8 h9).2.2).symm)
      (fun b hb => hne c b (fun h => hb (h ▸ Finset.mem_image.mpr ⟨(8 : Fin 10), Finset.mem_univ _, rfl⟩))
        (fun h => hb (h ▸ Finset.mem_image.mpr ⟨(9 : Fin 10), Finset.mem_univ _, rfl⟩)))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      intro p hp
      rcases hW hp with h | ⟨w, s, rfl⟩
      · exact h
      · exact le_rfl
    iexact HO

end Cert.KernelIdeal.Proof

end
-- ==== Proof.ArraysIdeal.lean ====
/-
  What the TensorCore's call of the idealized kernel leaves in its two result arrays.
-/
module

public import proofs.«01_k».proof.Proof.RegionIdeal
public import Idealize.ShloMosaic.Lib.Pipeline.ValueKit.Geometry

@[expose] public section

noncomputable section

namespace Cert.KernelIdeal.Proof

open Cert.KernelIdeal Cert.KernelIdeal.Gen

open Idealize.ShloMosaic Idealize.ShloMosaic.TcCoe
open Idealize.ShloMosaic.Tactic
open Idealize.ShloMosaic.Pipeline (Dat)

variable {F : FTy → Type} [FloatOps F] [Named F]

variable (V : (c : Dev nD) → (b : Ref sig .tc) → Buf (Elt F) ((c : Thread nD τ).loc b))

/-- The last grid point. -/
abbrev lastPt : Fin cfg0.N := ⟨7, by have : cfg0.N = 8 := N_0; omega⟩
/-- Grid point `n`. -/
abbrev pt (n : Fin 8) : Fin cfg0.N := ⟨n.val, by have : cfg0.N = 8 := N_0; omega⟩

/-- The accumulator's array ends at the sum of the eight points. -/
noncomputable def accEnd (c : Dev nD) : Vec F S1x1 .f32 := accAt V c lastPt.val lastPt.isLt
/-- The picks' array ends with point `b`'s picks as its row `b`. -/
noncomputable def picksEnd (c : Dev nD) : Vec F S8x1x2048 .f32 :=
  fun i => picksAt V c (pt (i 0)) (fun | 0 => ⟨0, by decide⟩ | 1 => ⟨0, by decide⟩ | 2 => i 2)

theorem index9 : ∀ t : Fin grid0.N, win0_9.index t 0 = t.val ∧ win0_9.index t 1 = 0 ∧ win0_9.index t 2 = 0 := by decide +kernel

/-- The accumulator's array after the call. -/
theorem arr8 (c : Dev nD) : (dat V c).arrAt 8 cfg0.N = accEnd V c := by
  refine (dat V c).arrAt_eq_of_covers 8 (accEnd V c) (by decide +kernel) fun t hf y => ?_
  have h7 : t.val = 7 := by have := (flush0_8 t).mp hf; have := t.isLt; have : cfg0.N = 8 := N_0; omega
  obtain rfl : t = lastPt := Fin.ext h7
  show accAt V c 7 _ _ = accAt V c 7 _ _
  blk_simp
  refine congrArg (accAt V c 7 _) (funext fun a => ?_)
  match a with
  | 0 => exact Subsingleton.elim (α := Fin 1) _ _
  | 1 => exact Subsingleton.elim (α := Fin 1) _ _

/-- The picks' array after the call. -/
theorem arr9 (c : Dev nD) : (dat V c).arrAt 9 cfg0.N = picksEnd V c := by
  refine (dat V c).arrAt_eq_of_covers 9 (picksEnd V c) (by decide +kernel) fun t hf y => ?_
  blk_simp
  obtain ⟨e0, e1, e2⟩ := index9 t
  have ht : pt ((win0_9.blk t).view.emb y 0) = t := by
    refine Fin.ext ?_
    show win0_9.index t 0 * 1 + 1 * (y 0).val = t.val
    have hy : (y 0).val < 1 := (y 0).isLt
    omega
  show picksAt V c t y = picksAt V c (pt ((win0_9.blk t).view.emb y 0)) _
  rw [ht]
  refine congrArg (picksAt V c t) (funext fun a => Fin.ext ?_)
  match a with
  | 0 => have hy : (y 0).val < 1 := (y 0).isLt
         show (y 0).val = 0; omega
  | 1 => have hy : (y 1).val < 1 := (y 1).isLt
         show (y 1).val = 0; omega
  | 2 => show (y 2).val = win0_9.index t 2 * 2048 + 1 * (y 2).val; omega

end Cert.KernelIdeal.Proof

end
-- ==== Proof.LaunchIdeal.lean ====
/-
  The idealized kernel's run: @main on the TensorCore — the host operations, the TensorCore's call as a region, the
  SparseCores' call — and what every final state holds.
-/
module

public import proofs.«01_k».proof.Proof.ArraysIdeal
public import Idealize.ShloMosaic.Lib.SparseCore.Quiescent

@[expose] public section

noncomputable section

namespace Cert.KernelIdeal.Proof

open Cert.KernelIdeal Cert.KernelIdeal.Gen

open Idealize.ShloMosaic Idealize.ShloMosaic.TcCoe
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo

variable {F : FTy → Type} [FloatOps F] [Named F]

local notation "𝕄" => MT nD τ sig (HIx 1) (Elt F) ℕ UU ℕ

/-! ## The launch element -/

/-- Where the handshakes' rounds sit in the user algebra. -/
abbrev EH : Emb UH 𝕄 := embL
/-- Where the region's rounds sit in it. -/
abbrev EP : Emb UK 𝕄 := (Emb.inl : Emb UK (UK × Counters)).trans embR

instance EP_landsIn : (EP (F := F)).LandsIn (upEmb : UEmb _ 𝕄) := by unfold EP embR; infer_instance

/-- No call of the program prefetches a table. -/
abbrev adm : (p : Fin 1) → (pcfgs (F := F) p).Adm := fun p => (cfgs p).toPCfg_adm

theorem pin_inj : Function.Injective (Pipeline.cellOf (nD := nD) (τ := τ) (Pipeline.pin (pcfgs (F := F)) adm)) := cellOf_inj

/-- The handshakes' launch element, the region's beside it. -/
def u₀ : UU := (initOf (K (F := F)).hsCells (K (F := F)).hsToks,
  (initOf (Pipeline.cells (Pipeline.pin (pcfgs (F := F)) adm) pin_inj) (Pipeline.launchToks (Pipeline.pin (pcfgs (F := F)) adm) pin_inj), 1))

/-- What a device's TensorCore is dealt for its region: the staging cells' ghost state and the transfers' tokens. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

variable (m : (ℓ : Loc nD τ sig) → Buf (Elt F) ℓ) (ρ : Dev nD → PrngReg)

/-! ## The arrays of @main, step by step -/

abbrev a0' : DevRef τ sig := Proc.devRef .tc main_arg0
abbrev a1' : DevRef τ sig := Proc.devRef .tc main_arg1
abbrev v0' : DevRef τ sig := Proc.devRef .tc main_v0
abbrev v10' : DevRef τ sig := Proc.devRef .tc main_v1_0
abbrev v11' : DevRef τ sig := Proc.devRef .tc main_v1_1
abbrev v2' : DevRef τ sig := Proc.devRef .tc main_v2
abbrev v3' : DevRef τ sig := Proc.devRef .tc main_v3
abbrev v4' : DevRef τ sig := Proc.devRef .tc main_v4
abbrev cst' : DevRef τ sig := Proc.devRef .tc main_cst
abbrev v5' : DevRef τ sig := Proc.devRef .tc main_v5
abbrev v6' : DevRef τ sig := Proc.devRef .tc main_v6

/-- The arrays of @main. -/
abbrev SA : Finset (DevRef τ sig) := {a0', a1', v0', v10', v11', v2', v3', v4', cst', v5', v6'}

abbrev op1 : HloOp τ sig (Elt F) := StableHlo.reshape main_arg1 main_v0 (rfl : (.i32 : EltTy) = .i32) shapeCasts_S16384_S32x1x512
abbrev op2 : HloOp τ sig (Elt F) := StableHlo.reshape main_v1_1 main_v2 (rfl : (.f32 : EltTy) = .f32) shapeCasts_S8x1x2048_S16384
abbrev op3 : HloOp τ sig (Elt F) := StableHlo.reshape main_v1_0 main_v4 (rfl : (.f32 : EltTy) = .f32) shapeCasts_S1x1_S_
abbrev op4 : HloOp τ sig (Elt F) := StableHlo.nullary main_cst (constant S_ .f32 0x00000000#32)
abbrev op5 : HloOp τ sig (Elt F) := StableHlo.binary main_v3 main_cst main_v5 ((fun x v => Host.reduceAdd x v reducesTo_S32x16_S_d0_1 h_S_) : (⟨S32x16, .f32⟩ : BufTy).Contents (Elt F) → (⟨S_, .f32⟩ : BufTy).Contents (Elt F) → (⟨S_, .f32⟩ : BufTy).Contents (Elt F))
abbrev op6 : HloOp τ sig (Elt F) := StableHlo.binary main_v4 main_v5 main_v6 (addf : (⟨S_, .f32⟩ : BufTy).Contents (Elt F) → (⟨S_, .f32⟩ : BufTy).Contents (Elt F) → (⟨S_, .f32⟩ : BufTy).Contents (Elt F))

/-- At launch. -/
def W0 (d : Dev nD) : Valuation τ sig (Elt F) := fun b => m (d, b)
/-- At the TensorCore's call: the targets reshaped. -/
def W1 (d : Dev nD) : Valuation τ sig (Elt F) := (op1 (F := F)).result (W0 m d)
/-- The same, by reference. -/
abbrev R1 (d : Dev nD) (b : Ref sig .tc) : Buf (Elt F) ((d : Thread nD τ).loc b) := W1 m d (Proc.devRef .tc b)
/-- After the TensorCore's call. -/
def W2 (d : Dev nD) : Valuation τ sig (Elt F) := Function.update (Function.update (W1 m d) v10' (accEnd (R1 m) d)) v11' (picksEnd (R1 m) d)
/-- At the SparseCores' call: the picks flattened. -/
def W3 (d : Dev nD) : Valuation τ sig (Elt F) := (op2 (F := F)).result (W2 m d)
/-- After the SparseCores' call. -/
def W4 (d : Dev nD) : Valuation τ sig (Elt F) := Function.update (W3 m d) v3' (sums (W3 m d a1') (W3 m d v2'))
/-- At the end. -/
def W8 (d : Dev nD) : Valuation τ sig (Elt F) := (op6 (F := F)).result ((op5 (F := F)).result ((op4 (F := F)).result ((op3 (F := F)).result (W4 m d))))

theorem unscoped_held (d : Dev nD) (W : Valuation τ sig (Elt F)) :
    (unscopedBufs d (fun b => W (Proc.devRef .tc b)) : sProp 𝕄) = held (T d) SA W := by
  unfold unscopedBufs held SA
  rw [show (Finset.univ.filter fun b : Ref sig .tc => ¬ b.isScoped)
      = {main_arg0, main_arg1, main_v0, main_v1_0, main_v1_1, main_v2, main_v3, main_v4, main_cst, main_v5, main_v6} by decide]
  repeat rw [SparseCore.bigSep_insert' (by decide)]
  repeat rw [SparseCore.bigSep_insert' (by decide)]
  rw [bigSep_singleton, bigSep_singleton]

/-- The value the program returns. -/
def value (d : Dev nD) : Vec F S_ .f32 :=
  addf (shapeCast S_ (accEnd (R1 m) d) shapeCasts_S1x1_S_)
    (Host.reduceAdd (sums (m (d, a1')) (shapeCast S16384 (picksEnd (R1 m) d) shapeCasts_S8x1x2048_S16384)) (constant S_ .f32 0x00000000#32) reducesTo_S32x16_S_d0_1 h_S_)

theorem W3_a1 (d : Dev nD) : W3 m d a1' = m (d, a1') := by
  unfold W3
  rw [reshape_result_ne _ _ _ _ _ _ _ (show main_arg1 ≠ main_v2 by decide)]
  unfold W2
  rw [Function.update_of_ne (show a1' ≠ v11' by decide), Function.update_of_ne (show a1' ≠ v10' by decide)]
  unfold W1
  rw [reshape_result_ne _ _ _ _ _ _ _ (show main_arg1 ≠ main_v0 by decide)]
  rfl
theorem W3_a0 (d : Dev nD) : W3 m d a0' = m (d, a0') := by
  unfold W3
  rw [reshape_result_ne _ _ _ _ _ _ _ (show main_arg0 ≠ main_v2 by decide)]
  unfold W2
  rw [Function.update_of_ne (show a0' ≠ v11' by decide), Function.update_of_ne (show a0' ≠ v10' by decide)]
  unfold W1
  rw [reshape_result_ne _ _ _ _ _ _ _ (show main_arg0 ≠ main_v0 by decide)]
  rfl
theorem W3_v2 (d : Dev nD) : W3 m d v2' = shapeCast S16384 (picksEnd (R1 m) d) shapeCasts_S8x1x2048_S16384 := by
  unfold W3
  rw [reshape_result]
  unfold W2
  rw [Function.update_self]
  rfl
theorem W3_v10 (d : Dev nD) : W3 m d v10' = accEnd (R1 m) d := by
  unfold W3
  rw [reshape_result_ne _ _ _ _ _ _ _ (show main_v1_0 ≠ main_v2 by decide)]
  unfold W2
  rw [Function.update_of_ne (show v10' ≠ v11' by decide), Function.update_self]

theorem W8_of_ne (d : Dev nD) {r : Ref sig .tc} (h3 : r ≠ main_v3) (h4 : r ≠ main_v4) (hc : r ≠ main_cst) (h5 : r ≠ main_v5) (h6 : r ≠ main_v6) :
    W8 m d (Proc.devRef .tc r) = W3 m d (Proc.devRef .tc r) := by
  unfold W8
  rw [binary_result_ne _ _ _ _ _ _ _ _ h6, binary_result_ne _ _ _ _ _ _ _ _ h5, nullary_result_ne _ _ _ _ hc, reshape_result_ne _ _ _ _ _ _ _ h4]
  exact Function.update_of_ne (devRef_ne_of_ne h3) _ _
theorem W8_v6 (d : Dev nD) : W8 m d v6' = value m d := by
  unfold W8
  rw [binary_result, binary_result_ne _ _ _ _ _ _ _ _ (show main_v4 ≠ main_v5 by decide), nullary_result_ne _ _ _ _ (show main_v4 ≠ main_cst by decide),
    reshape_result, binary_result, nullary_result, nullary_result_ne _ _ _ _ (show main_v3 ≠ main_cst by decide),
    reshape_result_ne _ _ _ _ _ _ _ (show main_v3 ≠ main_v4 by decide)]
  unfold W4
  rw [Function.update_self, Function.update_of_ne (show v10' ≠ v3' by decide), W3_v10, W3_a1, W3_v2]
  rfl

/-! ## The SparseCores' call, at the arrays it meets -/

abbrev PP : (K (F := F)).Pay (nD := nD) (Val := Elt F) (Name := ℕ) (U := UU) :=
  P (fun d => W3 m d a1') (fun d => W3 m d v2') (fun d => W3 m d v3')

theorem bigSep_emp' {I : Type} (s : Finset I) : (bigSep s fun _ => iprop(emp)) = (iprop(emp) : sProp 𝕄) := bigSep_emp_const s

/-- From the launch element, the handshakes' rounds and each device's region's. -/
theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (PP m).x q thr) := by
  unfold u₀ G
  iintro Hu
  ihave H := (ownU_pair (initOf (K (F := F)).hsCells (K (F := F)).hsToks) _) $$ Hu
  icases H with ⟨HH, HR⟩
  ihave H := (own_pair_emb (embR : Emb (UK × Counters) 𝕄) _ (1 : Counters)) $$ HR
  icases H with ⟨HP, -⟩
  imod (Pipeline.fund_ghost (Pipeline.pin (pcfgs (F := F)) adm) EP pin_inj) $$ HP with ⟨Hg, Ht⟩
  imodintro
  isplitl [HH]; · iexact HH
  isplitl [Hg Ht]
  · rw [bigSep_sep']
    isplitl [Hg]; · iexact Hg
    iexact Ht
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## The TensorCore's call, entered from @main -/

/-- The region at the arrays it meets and the arrays it leaves. -/
def regAt : Pipeline.RegionSeg (pcfgs (F := F)) adm (pdats (R1 m) adm) (none : HIx 1) defs₀ Variants.none (K (F := F)).L (K (F := F)).lev 0 :=
  reg (R1 m) adm (fun d b => W2 m d (Proc.devRef .tc b))
    (fun c => by
      rw [arr8]; unfold W2
      rw [Function.update_of_ne (show v10' ≠ v11' by decide), Function.update_self])
    (fun c => by rw [arr9]; unfold W2; rw [Function.update_self])
    (fun c b h0 h1 => by
      unfold W2
      rw [Function.update_of_ne (devRef_ne_of_ne h1), Function.update_of_ne (devRef_ne_of_ne h0)])

/-- The TensorCore's state before its SparseCore call: what it owes, and the rest. -/
theorem tcSt_zero (d : Dev nD) : ∃ R : sProp 𝕄, (K (F := F)).tcSt EH d 0 = iprop(duesAt d ∗ R) := ⟨_, rfl⟩

/-- The TensorCore's call: from the arrays at `W1` to the arrays at `W2`. -/
theorem wp_call (d : Dev nD) (Q : PUnit → sProp 𝕄) :
    iprop(((boundary (T d) ∗ held (T d) SA (W2 m d) ∗ duesAt d) -∗ Q ⟨⟩)
        ∗ boundary (T d) ∗ held (T d) SA (W1 m d) ∗ duesAt d ∗ levAts (K (F := F)).L (K (F := F)).lev ∗ G (F := F) d)
      ⊢ wp frame (wpE ((K (F := F)).defs (D (F := F))) 𝒱 (T d) none) Set.univ
          (Prog.lift (.customCall (SparseCore.inner (Pipeline.entry 0)) ())) Q := by
  rw [← unscoped_held, ← unscoped_held]
  have hlift : (Prog.lift (.customCall (SparseCore.inner (Pipeline.entry 0)) ()) : Prog (TpuEff nD τ sig (Elt F) (SparseCore.Sig (Pipeline.Sig Λ₀ (Fin 1) fun p => (pcfgs (F := F) p).Adm) 1) .tc) PUnit)
      = SparseCore.liftProg (.op (.customCall (Pipeline.entry 0) ()) .ret) := rfl
  rw [hlift]
  unfold G
  rw [bigSep_univ_of_subsingleton (0 : Fin 1), bigSep_univ_of_subsingleton (0 : Fin 1)]
  iintro ⟨Hk, Hb, Hu, Hd, Hl, Hg, Ht⟩
  iapply ((K (F := F)).wp_liftProg (D (F := F)) 𝒱 (T d) Set.univ none _ _)
  iapply (Pipeline.RegionSeg.wp (pcfgs (F := F)) adm (pdats (R1 m) adm) (none : HIx 1) pin_inj EP defs₀ Variants.none
    (K (F := F)).L (K (F := F)).lev (regAt m) d none (fun _ h => nomatch h) .ret Q)
  isplitl [Hk]
  · iintro ⟨Hb, Hp⟩
    rw [wp_ret]; imodintro
    iapply Hk
    isplitl [Hb]; · iexact Hb
    iapply (Entails.of_eq (show (regAt m).post d = iprop(unscopedBufs d (fun b => W2 m d (Proc.devRef .tc b)) ∗ duesAt d) from rfl))
    iexact Hp
  isplitl [Hb]; · iexact Hb
  isplitl [Hu Hd]
  · rw [show (regAt m).pre d = iprop(unscopedBufs d (R1 m d) ∗ duesAt d) from rfl]
    isplitl [Hu] <;> iassumption
  isplitl [Hl]; · iexact Hl
  isplitl [Hg]; · iexact Hg
  iexact Ht

/-! ## @main -/

abbrev x0Loc (d : Dev nD) : Loc nD τ sig := (d, a0')
abbrev x1Loc (d : Dev nD) : Loc nD τ sig := (d, a1')
abbrev outLoc (d : Dev nD) : Loc nD τ sig := (d, v6')

/-- What @main keeps: its two arguments as they were, and its result. -/
abbrev FIN (d : Dev nD) : sProp 𝕄 := iprop((x0Loc d ↦{fullShare} m (x0Loc d)) ∗ (x1Loc d ↦{fullShare} m (x1Loc d)) ∗ outLoc d ↦{fullShare} (value m d : Buf (Elt F) (outLoc d)))

/-- The arrays of the SparseCores' call. -/
abbrev SC : Finset (DevRef τ sig) := {a1', v2', v3'}
/-- The arrays @main keeps. -/
abbrev SF : Finset (DevRef τ sig) := {a0', a1', v6'}

theorem held_SC (d : Dev nD) (W : Valuation τ sig (Elt F)) :
    (held (T d) SC W : sProp 𝕄) = iprop((tLoc d ↦{fullShare} W a1') ∗ (gLoc d ↦{fullShare} W v2') ∗ oLoc d ↦{fullShare} W v3') := by
  unfold held SC
  rw [SparseCore.bigSep_insert' (by decide), SparseCore.bigSep_insert' (by decide), bigSep_singleton]
theorem held_SF (d : Dev nD) : (held (T d) SF (W8 m d) : sProp 𝕄) = FIN m d := by
  unfold held SF
  rw [SparseCore.bigSep_insert' (by decide), SparseCore.bigSep_insert' (by decide), bigSep_singleton, W8_v6,
    W8_of_ne m d (r := main_arg0) (by decide) (by decide) (by decide) (by decide) (by decide),
    W8_of_ne m d (r := main_arg1) (by decide) (by decide) (by decide) (by decide) (by decide), W3_a0, W3_a1]

/-- The arrays outside the SparseCores' call are as before it. -/
theorem held_rest (d : Dev nD) : (held (T d) (SA \ SC) (W3 m d) : sProp 𝕄) = held (T d) (SA \ SC) (W4 m d) := by
  refine held_congr (T d) fun b hb => ?_
  unfold W4
  rw [Function.update_of_ne]
  rintro rfl
  exact absurd hb (by decide)
/-- And those of the call: the partial sums in place. -/
theorem held_SC4 (d : Dev nD) : (held (T d) SC (W4 m d) : sProp 𝕄)
    = iprop((tLoc d ↦{fullShare} W3 m d a1') ∗ (gLoc d ↦{fullShare} W3 m d v2') ∗ oLoc d ↦{fullShare} (sums (W3 m d a1') (W3 m d v2') : Buf (Elt F) (oLoc d))) := by
  rw [held_SC]
  unfold W4
  rw [Function.update_self, Function.update_of_ne (show a1' ≠ v3' by decide), Function.update_of_ne (show v2' ≠ v3' by decide)]

theorem h1 : (op1 (F := F)).bufs ⊆ SA := show ({a1', v0'} : Finset (DevRef τ sig)) ⊆ SA by decide
theorem h2 : (op2 (F := F)).bufs ⊆ SA := show ({v11', v2'} : Finset (DevRef τ sig)) ⊆ SA by decide
theorem h3 : (op3 (F := F)).bufs ⊆ SA := show ({v10', v4'} : Finset (DevRef τ sig)) ⊆ SA by decide
theorem h4 : (op4 (F := F)).bufs ⊆ SA := show ({cst'} : Finset (DevRef τ sig)) ⊆ SA by decide
theorem h5 : (op5 (F := F)).bufs ⊆ SA := show ({v3', cst', v5'} : Finset (DevRef τ sig)) ⊆ SA by decide
theorem h6 : (op6 (F := F)).bufs ⊆ SA := show ({v4', v5', v6'} : Finset (DevRef τ sig)) ⊆ SA by decide

theorem ctx_lev (κ : GSem nD τ sig → ℕ) : (K (F := F)).ctx EH (PP m) κ ⊢ (levAts (K (F := F)).L (K (F := F)).lev : sProp 𝕄) := by
  unfold SparseCore.Cfg.ctx; exact sep_elim_left

/-- @main on device `d`'s TensorCore, from its arrays at launch to its arguments kept and its result. -/
theorem hmain (κ : GSem nD τ sig → ℕ) (d : Dev nD) :
    iprop((K (F := F)).ctx EH (PP m) κ ∗ (K (F := F)).tcSt EH d 0 ∗ (K (F := F)).tcRes m ρ d ∗ G (F := F) d)
      ⊢ wp frame (wpE ((K (F := F)).defs (D (F := F))) 𝒱 (SparseCore.T d) none) Set.univ (main d)
          fun _ => iprop((K (F := F)).tcSt EH d 1 ∗ FIN m d ∗ (K (F := F)).tcEnd d) := by
  obtain ⟨R, hR⟩ := tcSt_zero (F := F) d
  unfold SparseCore.Cfg.tcRes SparseCore.Cfg.tcEnd
  rw [show (unscopedBufs d (fun b => m ((SparseCore.T d).loc b)) : sProp 𝕄) = held (T d) SA (W0 m d) from unscoped_held d (W0 m d)]
  simp only [main, wp_bind, wp_pure]
  iintro ⟨#Hctx, Hst, ⟨Hb, Hheld, Hts, -⟩, HG⟩
  iapply (wp_hlo_within 𝒱 (SparseCore.T d) none Set.univ (op := op1) (S := SA) h1 (V := W0 m d)) $$ [Hb Hheld]
  · isplitl [Hb] <;> iassumption
  iintro ⟨Hb, Hheld⟩
  rw [wp_ret]; imodintro
  -- the TensorCore's call
  ihave Hst' := (Entails.of_eq hR) $$ Hst
  icases Hst' with ⟨Hd, HR⟩
  ihave Hlev := (ctx_lev m κ) $$ Hctx
  iapply (wp_call m d)
  isplitr [Hb Hheld Hd Hlev HG]
  · iintro ⟨Hb, Hheld, Hd⟩
    -- the picks flattened
    iapply (wp_hlo_within 𝒱 (SparseCore.T d) none Set.univ (op := op2) (S := SA) h2 (V := W2 m d)) $$ [Hb Hheld]
    · isplitl [Hb] <;> iassumption
    iintro ⟨Hb, Hheld⟩
    rw [wp_ret]; imodintro
    -- the SparseCores' call
    ihave Hh := (Entails.of_eq (show (held (T d) SA ((op2 (F := F)).result (W2 m d)) : sProp 𝕄) = _ from held_sub_split (T d) (show SC ⊆ SA by decide) (W3 m d))) $$ Hheld
    icases Hh with ⟨Hsc, Hrest⟩
    iapply ((K (F := F)).wp_run (D (F := F)) 𝒱 (EH := EH) (P := PP m) κ d 0) $$ [Hd HR Hsc Hrest Hb Hts]
    isplitr; · iexact Hctx
    isplitl [Hd HR]
    · iapply (Entails.of_eq hR.symm); isplitl [Hd] <;> iassumption
    isplitl [Hsc]
    · rw [st0_eq]
      iapply (Entails.of_eq (held_SC d (W3 m d))); iexact Hsc
    iintro ⟨Hst, Hdn⟩
    ihave Hdn' := (Entails.of_eq (dn0_eq _ _ _ d)) $$ Hdn
    ihave Hsc := (Entails.of_eq (held_SC4 m d).symm) $$ Hdn'
    ihave Hrest' := (Entails.of_eq (held_rest m d)) $$ Hrest
    -- the returned sum
    iapply (wp_hlo_within 𝒱 (SparseCore.T d) none Set.univ (op := op3) (S := SA) h3 (V := W4 m d)) $$ [Hb Hsc Hrest']
    · isplitl [Hb]; · iexact Hb
      iapply (Entails.of_eq (held_sub_split (T d) (show SC ⊆ SA by decide) (W4 m d)).symm)
      isplitl [Hsc] <;> iassumption
    iintro ⟨Hb, Hheld⟩
    rw [wp_ret]; imodintro
    iapply (wp_hlo_within 𝒱 (SparseCore.T d) none Set.univ (op := op4) (S := SA) h4 (V := (op3 (F := F)).result (W4 m d))) $$ [Hb Hheld]
    · isplitl [Hb] <;> iassumption
    iintro ⟨Hb, Hheld⟩
    rw [wp_ret]; imodintro
    iapply (wp_hlo_within 𝒱 (SparseCore.T d) none Set.univ (op := op5) (S := SA) h5 (V := (op4 (F := F)).result ((op3 (F := F)).result (W4 m d)))) $$ [Hb Hheld]
    · isplitl [Hb] <;> iassumption
    iintro ⟨Hb, Hheld⟩
    rw [wp_ret]; imodintro
    iapply (wp_hlo_within 𝒱 (SparseCore.T d) none Set.univ (op := op6) (S := SA) h6
      (V := (op5 (F := F)).result ((op4 (F := F)).result ((op3 (F := F)).result (W4 m d))))) $$ [Hb Hheld]
    · isplitl [Hb] <;> iassumption
    iintro ⟨Hb, Hheld⟩
    ihave Hh := (Entails.of_eq (show (held (T d) SA ((op6 (F := F)).result ((op5 (F := F)).result ((op4 (F := F)).result ((op3 (F := F)).result (W4 m d))))) : sProp 𝕄) = _
      from held_sub_split (T d) (show SF ⊆ SA by decide) (W8 m d))) $$ Hheld
    icases Hh with ⟨Hf, -⟩
    ihave Hfin := (Entails.of_eq (held_SF m d)) $$ Hf
    rw [wp_ret]; imodintro; imodintro
    isplitl [Hst]; · iexact Hst
    isplitl [Hfin]; · iexact Hfin
    isplitl [Hb] <;> iassumption
  isplitl [Hb]; · iexact Hb
  isplitl [Hheld]
  · iapply (Entails.of_eq (show (held (T d) SA ((op1 (F := F)).result (W0 m d)) : sProp 𝕄) = held (T d) SA (W1 m d) from rfl)); iexact Hheld
  isplitl [Hd]; · iexact Hd
  isplitl [Hlev]; · iexact Hlev
  iexact HG

/-! ## What every final state holds -/

/-- Device `d`'s arguments as at launch, and its result. -/
def fq (d : Dev nD) (s' : Phys nD τ sig (Elt F)) : Prop :=
  s'.mem.mem (x0Loc d) = m (x0Loc d) ∧ s'.mem.mem (x1Loc d) = m (x1Loc d) ∧ s'.mem.mem (outLoc d) = value m d

theorem hfin (d : Dev nD) (s' : Phys nD τ sig (Elt F)) : iprop(FIN m d ∗ SI s') ⊢ (⌜fq m d s'⌝ : sProp 𝕄) := by
  iintro ⟨⟨H0, H1, Ho⟩, HSI⟩
  ihave H := (persistent_entails_right (SI_pointsTo_agree (st := s') (ℓ := x0Loc d) (I := Finset.univ) (q := fullShare) (f := m (x0Loc d)))) $$ [HSI H0]
  · isplitl [HSI] <;> iassumption
  icases H with ⟨%h0, HSI, -⟩
  ihave H := (persistent_entails_right (SI_pointsTo_agree (st := s') (ℓ := x1Loc d) (I := Finset.univ) (q := fullShare) (f := m (x1Loc d)))) $$ [HSI H1]
  · isplitl [HSI] <;> iassumption
  icases H with ⟨%h1, HSI, -⟩
  ihave H := (SI_pointsTo_agree (st := s') (ℓ := outLoc d) (I := Finset.univ) (q := fullShare) (f := value m d)) $$ [HSI Ho]
  · isplitl [HSI] <;> iassumption
  icases H with %ho
  ipureintro
  exact ⟨funext fun i => h0 i (Finset.mem_univ i), funext fun i => h1 i (Finset.mem_univ i), funext fun i => ho i (Finset.mem_univ i)⟩

/-- Every device's final state, and every semaphore counter at zero. -/
def QC : PUnit × MemSt nD τ sig (Elt F) → Prop := fun r =>
  (∀ c : Dev nD, r.2.mem (x0Loc c) = m (x0Loc c) ∧ r.2.mem (x1Loc c) = m (x1Loc c) ∧ r.2.mem (outLoc c) = value m c) ∧ r.2.sem = fun _ => 0

/-- The program's run: it ends, with its arguments kept, its result at `value` and every counter back at zero. -/
theorem run_main : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) scFacts v₀
    (fun q hq => match q with | 0 => nomatch hq)
    (fun q _ => match q with | 0 => tileObl _ _ _ scFacts)
    (fun q _ => match q with | 0 => SparseCore.Cfg.VecSplit.of_plain (vecSplit _ _ _))
    m ρ main (fun d => G d) (FIN m) (u₀ (F := F)) (sep_elim_left.trans (hu₀ m)) (hmain m ρ) (fq m) (hfin m) (QC m) (fun _ h hz => ⟨h, hz⟩)

end Cert.KernelIdeal.Proof

end
-- ==== Proof.Claims.lean ====
/-
  The frame claims, read off the two kernels' runs and the reference's, and the claim on the named constants.
-/
module

public import proofs.«01_k».proof.Defs
public import proofs.«01_k».proof.Proof.LaunchRun
public import proofs.«01_k».proof.Proof.LaunchIdeal
public import proofs.«01_k».proof.Proof.Gen.ReferenceIdeal.Run
public import Idealize.ShloMosaic.Lib.Quiescent

@[expose] public section

noncomputable section

namespace Cert.Proof.Claims

open Idealize.ShloMosaic Idealize.ShloMosaic.TcCoe Idealize.SL.Sem

/-- The printed kernel runs to its end from every memory, leaves its two arguments as they were and every counter at
    zero. -/
theorem frame_p : Cert.quiescent_Kernel := fun m ρ _ =>
  (θ_run Cert.Kernel.defs _ _).mono (fun _ h => ⟨fun c => ⟨(h.1 c).1, (h.1 c).2.1⟩, h.2⟩)
    (Cert.Kernel.Proof.run_main (F := Bits) m ρ)

/-- So does the idealized kernel, at the extended reals. -/
theorem frame_pi : Cert.quiescent_KernelIdeal := fun m ρ _ =>
  (θ_run Cert.KernelIdeal.defs _ _).mono (fun _ h => ⟨fun c => ⟨(h.1 c).1, (h.1 c).2.1⟩, h.2⟩)
    (Cert.KernelIdeal.Proof.run_main (F := Ideal) m ρ)

/-- And the reference. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The three constants the idealized kernel names have the real values the certificate's table gives them. -/
theorem preserves : Cert.preserves_Kernel_KernelIdeal :=
  ⟨IdealRules.named_const.statement _ _ _ _ _ rfl, IdealRules.named_const.statement _ _ _ _ _ rfl,
    IdealRules.named_const.statement _ _ _ _ _ rfl⟩

end Cert.Proof.Claims

end
-- ==== Proof.BlockValue.lean ====
/-
  What one block gives, over the extended reals: its share of the accumulator and the entries it picks.
-/
module

public import proofs.«01_k».proof.Proof.BlockIdeal
public import Idealize.ShloMosaic.Lib.Pointwise

@[expose] public section

noncomputable section

namespace Cert.KernelIdeal.BlockValue

open Cert.KernelIdeal Cert.KernelIdeal.Gen
open Idealize.ShloMosaic Idealize.ShloMosaic.TcCoe Idealize.SL.Sem

/-! ## One block -/

/-- The dense part of row `r` of a block: the row's mask times its sum without the first entry. -/
def dense (x : Vec Ideal S512x2891 .f32) (t : Vec Ideal S1x1x512 .i32) (r : Fin 512) : EReal :=
  FloatOps.sitofp (F := Ideal) FTy.f32 (BitVec.setWidth 32 (IntOp.cmpi CmpIPredicate.ne (t (ix3 0 0 r)) 0#32)) * (∑ c : Fin 2891, x (ix2 r c) - x (ix2 r 0))

/-- The entry of row `r` of a block that its target picks. -/
def pick (x : Vec Ideal S512x2891 .f32) (t : Vec Ideal S1x1x512 .i32) (r : Fin 512) : EReal :=
  ∑ c : Fin 2891, Scalar.select (IntOp.cmpi CmpIPredicate.eq (BitVec.ofNat 32 c.val) (t (ix3 0 0 r))) (x (ix2 r c)) 0

/-- The block's share of the accumulator. -/
def share (x0 : Vec Ideal S512x2891 .f32) (t0 : Vec Ideal S1x1x512 .i32) (x1 : Vec Ideal S512x2891 .f32) (t1 : Vec Ideal S1x1x512 .i32)
    (x2 : Vec Ideal S512x2891 .f32) (t2 : Vec Ideal S1x1x512 .i32) (x3 : Vec Ideal S512x2891 .f32) (t3 : Vec Ideal S1x1x512 .i32) : EReal :=
  Named.named (F := Ideal) κ "neg_s" (φ := .f32) 0xB8112E8F#32 * ((((∑ r, dense x0 t0 r) + ∑ r, dense x1 t1 r) + ∑ r, dense x2 t2 r) + ∑ r, dense x3 t3 r)

variable (x0 : Vec Ideal S512x2891 .f32) (t0 : Vec Ideal S1x1x512 .i32) (x1 : Vec Ideal S512x2891 .f32) (t1 : Vec Ideal S1x1x512 .i32)
    (x2 : Vec Ideal S512x2891 .f32) (t2 : Vec Ideal S1x1x512 .i32) (x3 : Vec Ideal S512x2891 .f32) (t3 : Vec Ideal S1x1x512 .i32)

/-- The first grid point leaves its share in the accumulator. -/
theorem accFirst_apply : Proof.accFirst x0 t0 x1 t1 x2 t2 x3 t3 (ix2 0 0) = share x0 t0 x1 t1 x2 t2 x3 t3 := by
  pointwise [Proof.accFirst, Proof.lead, k0_pay3, k0_pay1, k0_pay12, k0_pay11, k0_pay6, k0_pay5, k0_pay9, k0_pay8, k0_pay15, k0_pay14, k0_pay16, k0_pay17, share, dense]

/-- A later one adds its share. -/
theorem accNext_apply (a : Vec Ideal S1x1 .f32) : Proof.accNext x0 t0 x1 t1 x2 t2 x3 t3 a (ix2 0 0) = a (ix2 0 0) + share x0 t0 x1 t1 x2 t2 x3 t3 := by
  pointwise [Proof.accNext, Proof.lead, k0_pay4, k0_pay1, k0_pay12, k0_pay11, k0_pay6, k0_pay5, k0_pay9, k0_pay8, k0_pay15, k0_pay14, k0_pay16, k0_pay17, share, dense]

/-- The picks' buffer at position `j`. -/
theorem picks_cases (j : Fin 2048) :
    Proof.picks x0 t0 x1 t1 x2 t2 x3 t3 (ix3 0 0 j) =
      if h : j.val < 512 then pick x0 t0 ⟨j.val, h⟩
      else if h : j.val - 512 < 512 then pick x1 t1 ⟨j.val - 512, h⟩
      else if h : j.val - 512 - 512 < 512 then pick x2 t2 ⟨j.val - 512 - 512, h⟩
      else pick x3 t3 ⟨j.val - 512 - 512 - 512, by omega⟩ := by
  pointwise [Proof.picks, k0_pay2, k0_pay7, k0_pay5, k0_pay10, k0_pay8, k0_pay13, k0_pay11, k0_pay14, pick]

/-- Position `s * 512 + r` of the picks' buffer is row `r` of slice `s`. -/
theorem picks_apply (s : Fin 4) (r : Fin 512) (j : Fin 2048) (hj : j.val = s.val * 512 + r.val) :
    Proof.picks x0 t0 x1 t1 x2 t2 x3 t3 (ix3 0 0 j) = pick (![x0, x1, x2, x3] s) (![t0, t1, t2, t3] s) r := by
  rw [picks_cases]
  obtain ⟨s, hs⟩ := s
  have hr := r.isLt
  dsimp only at hj
  interval_cases s
  · rw [dif_pos (by omega)]
    exact congrArg (pick x0 t0) (Fin.ext (by dsimp only; omega))
  · rw [dif_neg (by omega), dif_pos (by omega)]
    exact congrArg (pick x1 t1) (Fin.ext (by dsimp only; omega))
  · rw [dif_neg (by omega), dif_neg (by omega), dif_pos (by omega)]
    exact congrArg (pick x2 t2) (Fin.ext (by dsimp only; omega))
  · rw [dif_neg (by omega), dif_neg (by omega), dif_neg (by omega)]
    exact congrArg (pick x3 t3) (Fin.ext (by dsimp only; omega))

end Cert.KernelIdeal.BlockValue

end
-- ==== Proof.Rows.lean ====
/-
  The mathematics of one row, over the reals: the kernel's closed form of a row's loss is the reference's sum over its
  columns; and the two ways in which the kernel goes through the 16384 rows.
-/
module

public import Idealize.ShloMosaic.PureOps.Ideal.Laws
public import Mathlib.Analysis.SpecialFunctions.Log.Basic

@[expose] public section

noncomputable section

namespace Cert.Rows

/-- A finite sum of reals, read as an extended real, is the sum of the readings. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## One row -/

/-- The target distribution's weight of column `c` in a row whose target is `k`. -/
def weight (k c : Fin 2891) : ℝ := if k = 0 then 0 else if c = 0 then 0 else if c = k then 9 / 10 else 1 / 28890

/-- A row's loss as the reference sums it, column by column. -/
def refRow (y : Fin 2891 → ℝ) (k : Fin 2891) : ℝ :=
  ∑ c, if 0 < weight k c then weight k c * (Real.log (weight k c) - y c) else 0

/-- The part of a row's loss that the dense sweep adds up, without its factor. -/
def denseRow (y : Fin 2891 → ℝ) (k : Fin 2891) : ℝ := if k = 0 then 0 else (∑ c, y c) - y 0

/-- The part of a row's loss that its picked entry gives. -/
def pickRow (y : Fin 2891 → ℝ) (k : Fin 2891) : ℝ :=
  if k = 0 then 0 else 1 / 10 * Real.log (14348907 / 1070000000000) - 2600 / 2889 * y k

/-- The constant of the picked part: the entropy terms of the 2889 smoothed columns and of the target's column. -/
theorem entropy : 1 / 10 * Real.log (14348907 / 1070000000000)
    = 2889 * (1 / 28890 * Real.log (1 / 28890)) + 9 / 10 * Real.log (9 / 10) := by
  have h : (14348907 / 1070000000000 : ℝ) = (1 / 28890) * (9 / 10) ^ 9 := by norm_num
  rw [h, Real.log_mul (by norm_num) (by norm_num), Real.log_pow]
  push_cast
  ring

/-- The two parts together are the row's loss. -/
theorem refRow_eq (y : Fin 2891 → ℝ) (k : Fin 2891) : refRow y k = -1 / 28890 * denseRow y k + pickRow y k := by
  unfold refRow denseRow pickRow
  by_cases hk : k = 0
  · simp [weight, hk]
  · have hterm : ∀ c : Fin 2891, (if 0 < weight k c then weight k c * (Real.log (weight k c) - y c) else 0)
        = (1 / 28890 * Real.log (1 / 28890) - 1 / 28890 * y c)
          + (if c = 0 then -(1 / 28890 * Real.log (1 / 28890)) + 1 / 28890 * y 0 else 0)
          + (if c = k then 9 / 10 * (Real.log (9 / 10) - y k) - (1 / 28890 * Real.log (1 / 28890) - 1 / 28890 * y k) else 0) := by
      intro c
      unfold weight
      rw [if_neg hk]
      by_cases hc : c = 0
      · subst hc
        rw [if_pos rfl, if_pos rfl, if_neg (Ne.symm hk), if_neg (lt_irrefl _)]
        ring
      · rw [if_neg hc, if_neg hc]
        by_cases hck : c = k
        · subst hck
          rw [if_pos rfl, if_pos rfl, if_pos (by norm_num)]
          ring
        · rw [if_neg hck, if_neg hck, if_pos (by norm_num)]
          ring
    rw [Finset.sum_congr rfl fun c _ => hterm c, Finset.sum_add_distrib, Finset.sum_add_distrib, Finset.sum_sub_distrib,
      Finset.sum_const, Finset.card_univ, Fintype.card_fin, ← Finset.mul_sum, Finset.sum_ite_eq' , Finset.sum_ite_eq',
      if_pos (Finset.mem_univ _), if_pos (Finset.mem_univ _), if_neg hk, if_neg hk, entropy, nsmul_eq_mul]
    push_cast
    ring

/-! ## Going through the rows -/

/-- Row `r` of slice `s` of grid point `b`. -/
def row (s : Fin 4) (b : Fin 8) (r : Fin 512) : Fin 16384 := ⟨(s.val * 8 + b.val) * 512 + r.val, by omega⟩

/-- The group of 512 rows that grid point `b` has in slice `s`. -/
def slot (s : Fin 4) (b : Fin 8) : Fin 32 := ⟨s.val * 8 + b.val, by omega⟩

/-- The row of chunk `k` in lane `l` of tile `w`. -/
def laneRow (w : Fin 32) (l : Fin 16) (k : Fin 32) : Fin 16384 := ⟨w.val * 512 + (16 * k.val + l.val), by omega⟩

/-- The rows by grid point, slice and position. -/
def rowEquiv : Fin 8 × Fin 4 × Fin 512 ≃ Fin 16384 where
  toFun p := row p.2.1 p.1 p.2.2
  invFun n := (⟨n.val / 512 % 8, by omega⟩, ⟨n.val / 4096, by omega⟩, ⟨n.val % 512, by omega⟩)
  left_inv p := by
    obtain ⟨⟨b, hb⟩, ⟨s, hs⟩, ⟨r, hr⟩⟩ := p
    simp only [row, Prod.mk.injEq, Fin.mk.injEq]
    omega
  right_inv n := by
    apply Fin.ext
    simp only [row]
    omega

/-- The rows by tile, lane and chunk. -/
def laneEquiv : Fin 32 × Fin 16 × Fin 32 ≃ Fin 16384 where
  toFun p := laneRow p.1 p.2.1 p.2.2
  invFun n := (⟨n.val / 512, by omega⟩, ⟨n.val % 16, by omega⟩, ⟨n.val % 512 / 16, by omega⟩)
  left_inv p := by
    obtain ⟨⟨w, hw⟩, ⟨l, hl⟩, ⟨k, hk⟩⟩ := p
    simp only [laneRow, Prod.mk.injEq, Fin.mk.injEq]
    omega
  right_inv n := by
    apply Fin.ext
    simp only [laneRow]
    omega

/-- A sum over the rows, grid point by grid point. -/
theorem sum_rows {M : Type} [AddCommMonoid M] (f : Fin 16384 → M) :
    ∑ b : Fin 8, ∑ s : Fin 4, ∑ r : Fin 512, f (row s b r) = ∑ n, f n := by
  rw [← Equiv.sum_comp rowEquiv f, Fintype.sum_prod_type]
  refine Finset.sum_congr rfl fun b _ => ?_
  rw [Fintype.sum_prod_type]
  rfl

/-- A sum over the rows, tile by tile and lane by lane. -/
theorem sum_lanes {M : Type} [AddCommMonoid M] (f : Fin 16384 → M) :
    ∑ w : Fin 32, ∑ l : Fin 16, ∑ k : Fin 32, f (laneRow w l k) = ∑ n, f n := by
  rw [← Equiv.sum_comp laneEquiv f, Fintype.sum_prod_type]
  refine Finset.sum_congr rfl fun b _ => ?_
  rw [Fintype.sum_prod_type]
  rfl

end Cert.Rows

end
-- ==== Proof.ArrayValue.lean ====
/-
  What the TensorCore's call leaves in its two result arrays, over the extended reals, row by row of its arguments.
-/
module

public import proofs.«01_k».proof.Proof.BlockValue
public import proofs.«01_k».proof.Proof.ArraysIdeal
public import proofs.«01_k».proof.Proof.Rows

@[expose] public section

noncomputable section

namespace Cert.KernelIdeal.ArrayValue

open Cert.KernelIdeal Cert.KernelIdeal.Gen
open Idealize.ShloMosaic Idealize.ShloMosaic.TcCoe Idealize.ShloMosaic.Tactic Idealize.SL.Sem
open Cert.Rows (row)
open Cert.KernelIdeal.Proof (pt)
open BlockValue

variable (V : (c : Dev nD) → (b : Ref sig .tc) → Buf (Elt Ideal) ((c : Thread nD τ).loc b)) (c : Dev nD)

/-! ## The blocks are rows of the arguments -/

/- Where the eight input windows stand at each grid point. -/
theorem index0 : ∀ t : Fin grid0.N, win0_0.index t 0 = t.val ∧ win0_0.index t 1 = 0 := by decide +kernel
theorem index1 : ∀ t : Fin grid0.N, win0_1.index t 0 = 8 + t.val ∧ win0_1.index t 1 = 0 := by decide +kernel
theorem index2 : ∀ t : Fin grid0.N, win0_2.index t 0 = 16 + t.val ∧ win0_2.index t 1 = 0 := by decide +kernel
theorem index3 : ∀ t : Fin grid0.N, win0_3.index t 0 = 24 + t.val ∧ win0_3.index t 1 = 0 := by decide +kernel
theorem index4 : ∀ t : Fin grid0.N, win0_4.index t 0 = t.val ∧ win0_4.index t 1 = 0 ∧ win0_4.index t 2 = 0 := by decide +kernel
theorem index5 : ∀ t : Fin grid0.N, win0_5.index t 0 = 8 + t.val ∧ win0_5.index t 1 = 0 ∧ win0_5.index t 2 = 0 := by decide +kernel
theorem index6 : ∀ t : Fin grid0.N, win0_6.index t 0 = 16 + t.val ∧ win0_6.index t 1 = 0 ∧ win0_6.index t 2 = 0 := by decide +kernel
theorem index7 : ∀ t : Fin grid0.N, win0_7.index t 0 = 24 + t.val ∧ win0_7.index t 1 = 0 ∧ win0_7.index t 2 = 0 := by decide +kernel

/-- Slice 0's block of the rows. -/
theorem blk0_apply (b : Fin 8) (r : Fin 512) (q : Fin 2891) : Proof.blk0 V c (pt b) (ix2 r q) = V c main_arg0 (ix2 (row 0 b r) q) := by
  obtain ⟨e0, e1⟩ := index0 (pt b)
  refine congrArg (V c main_arg0) (funext fun a => Fin.ext ?_)
  match a with
  | 0 => show win0_0.index (pt b) 0 * 512 + 1 * r.val = (0 * 8 + b.val) * 512 + r.val; rw [e0]; dsimp only; omega
  | 1 => show win0_0.index (pt b) 1 * 2891 + 1 * q.val = q.val; rw [e1]; omega

/-- Slice 1's block of the rows. -/
theorem blk1_apply (b : Fin 8) (r : Fin 512) (q : Fin 2891) : Proof.blk1 V c (pt b) (ix2 r q) = V c main_arg0 (ix2 (row 1 b r) q) := by
  obtain ⟨e0, e1⟩ := index1 (pt b)
  refine congrArg (V c main_arg0) (funext fun a => Fin.ext ?_)
  match a with
  | 0 => show win0_1.index (pt b) 0 * 512 + 1 * r.val = (1 * 8 + b.val) * 512 + r.val; rw [e0]; dsimp only; omega
  | 1 => show win0_1.index (pt b) 1 * 2891 + 1 * q.val = q.val; rw [e1]; omega

/-- Slice 2's block of the rows. -/
theorem blk2_apply (b : Fin 8) (r : Fin 512) (q : Fin 2891) : Proof.blk2 V c (pt b) (ix2 r q) = V c main_arg0 (ix2 (row 2 b r) q) := by
  obtain ⟨e0, e1⟩ := index2 (pt b)
  refine congrArg (V c main_arg0) (funext fun a => Fin.ext ?_)
  match a with
  | 0 => show win0_2.index (pt b) 0 * 512 + 1 * r.val = (2 * 8 + b.val) * 512 + r.val; rw [e0]; dsimp only; omega
  | 1 => show win0_2.index (pt b) 1 * 2891 + 1 * q.val = q.val; rw [e1]; omega

/-- Slice 3's block of the rows. -/
theorem blk3_apply (b : Fin 8) (r : Fin 512) (q : Fin 2891) : Proof.blk3 V c (pt b) (ix2 r q) = V c main_arg0 (ix2 (row 3 b r) q) := by
  obtain ⟨e0, e1⟩ := index3 (pt b)
  refine congrArg (V c main_arg0) (funext fun a => Fin.ext ?_)
  match a with
  | 0 => show win0_3.index (pt b) 0 * 512 + 1 * r.val = (3 * 8 + b.val) * 512 + r.val; rw [e0]; dsimp only; omega
  | 1 => show win0_3.index (pt b) 1 * 2891 + 1 * q.val = q.val; rw [e1]; omega

/-- Slice 0's block of the targets. -/
theorem blk4_apply (b : Fin 8) (r : Fin 512) :
    Proof.blk4 V c (pt b) (ix3 0 0 r) = V c main_v0 (ix3 (⟨0 * 8 + b.val, by omega⟩ : Fin 32) 0 r) := by
  obtain ⟨e0, e1, e2⟩ := index4 (pt b)
  refine congrArg (V c main_v0) (funext fun a => Fin.ext ?_)
  match a with
  | 0 => show win0_4.index (pt b) 0 * 1 + 1 * 0 = 0 * 8 + b.val; rw [e0]; dsimp only; omega
  | 1 => show win0_4.index (pt b) 1 * 1 + 1 * 0 = 0; rw [e1]
  | 2 => show win0_4.index (pt b) 2 * 512 + 1 * r.val = r.val; rw [e2]; omega

/-- Slice 1's block of the targets. -/
theorem blk5_apply (b : Fin 8) (r : Fin 512) :
    Proof.blk5 V c (pt b) (ix3 0 0 r) = V c main_v0 (ix3 (⟨1 * 8 + b.val, by omega⟩ : Fin 32) 0 r) := by
  obtain ⟨e0, e1, e2⟩ := index5 (pt b)
  refine congrArg (V c main_v0) (funext fun a => Fin.ext ?_)
  match a with
  | 0 => show win0_5.index (pt b) 0 * 1 + 1 * 0 = 1 * 8 + b.val; rw [e0]; dsimp only; omega
  | 1 => show win0_5.index (pt b) 1 * 1 + 1 * 0 = 0; rw [e1]
  | 2 => show win0_5.index (pt b) 2 * 512 + 1 * r.val = r.val; rw [e2]; omega

/-- Slice 2's block of the targets. -/
theorem blk6_apply (b : Fin 8) (r : Fin 512) :
    Proof.blk6 V c (pt b) (ix3 0 0 r) = V c main_v0 (ix3 (⟨2 * 8 + b.val, by omega⟩ : Fin 32) 0 r) := by
  obtain ⟨e0, e1, e2⟩ := index6 (pt b)
  refine congrArg (V c main_v0) (funext fun a => Fin.ext ?_)
  match a with
  | 0 => show win0_6.index (pt b) 0 * 1 + 1 * 0 = 2 * 8 + b.val; rw [e0]; dsimp only; omega
  | 1 => show win0_6.index (pt b) 1 * 1 + 1 * 0 = 0; rw [e1]
  | 2 => show win0_6.index (pt b) 2 * 512 + 1 * r.val = r.val; rw [e2]; omega

/-- Slice 3's block of the targets. -/
theorem blk7_apply (b : Fin 8) (r : Fin 512) :
    Proof.blk7 V c (pt b) (ix3 0 0 r) = V c main_v0 (ix3 (⟨3 * 8 + b.val, by omega⟩ : Fin 32) 0 r) := by
  obtain ⟨e0, e1, e2⟩ := index7 (pt b)
  refine congrArg (V c main_v0) (funext fun a => Fin.ext ?_)
  match a with
  | 0 => show win0_7.index (pt b) 0 * 1 + 1 * 0 = 3 * 8 + b.val; rw [e0]; dsimp only; omega
  | 1 => show win0_7.index (pt b) 1 * 1 + 1 * 0 = 0; rw [e1]
  | 2 => show win0_7.index (pt b) 2 * 512 + 1 * r.val = r.val; rw [e2]; omega

/-! ## A block of finite entries and targets in range -/

/-- Two columns have one word only if they are one column. -/
theorem word_inj (a b : Fin 2891) : BitVec.ofNat 32 a.val = BitVec.ofNat 32 b.val ↔ a = b := by
  constructor
  · intro h
    have h' := congrArg BitVec.toNat h
    rw [BitVec.toNat_ofNat, BitVec.toNat_ofNat, Nat.mod_eq_of_lt (by omega), Nat.mod_eq_of_lt (by omega)] at h'
    exact Fin.ext h'
  · rintro rfl; rfl

/-- A column's word is zero only for column 0. -/
theorem word_zero (a : Fin 2891) : BitVec.ofNat 32 a.val = 0#32 ↔ a = 0 := word_inj a 0

section
variable (x : Vec Ideal S512x2891 .f32) (t : Vec Ideal S1x1x512 .i32) (r : Fin 512) (y : Fin 2891 → ℝ) (k : Fin 2891)
  (hx : ∀ q, x (ix2 r q) = (y q : EReal)) (ht : t (ix3 0 0 r) = BitVec.ofNat 32 k.val)
include hx ht

/-- The dense part of a row of reals. -/
theorem dense_real : dense x t r = (Rows.denseRow y k : EReal) := by
  unfold dense Rows.denseRow
  rw [ht, Finset.sum_congr rfl fun q _ => hx q, hx 0, ← Rows.coe_sum, ← EReal.coe_sub]
  by_cases hk : k = 0
  · subst hk
    rw [if_pos rfl]
    show (((0 : ℤ) : ℝ) : EReal) * _ = _
    simp
  · rw [if_neg hk, show IntOp.cmpi CmpIPredicate.ne (BitVec.ofNat 32 k.val) 0#32 = 1#1 by
      show BitVec.ofBool (!(BitVec.ofNat 32 k.val == 0#32)) = 1#1
      rw [beq_eq_false_iff_ne.mpr (mt (word_zero k).mp hk)]
      rfl]
    show (((1 : ℤ) : ℝ) : EReal) * _ = _
    simp

/-- The entry that a row's target picks. -/
theorem pick_real : pick x t r = (y k : EReal) := by
  unfold pick
  rw [ht, Finset.sum_eq_single k]
  · rw [show IntOp.cmpi CmpIPredicate.eq (BitVec.ofNat 32 k.val) (BitVec.ofNat 32 k.val) = 1#1 by simp [IntOp.cmpi]]
    exact hx k
  · intro q _ hq
    rw [show IntOp.cmpi CmpIPredicate.eq (BitVec.ofNat 32 q.val) (BitVec.ofNat 32 k.val) = 0#1 by
      show BitVec.ofBool (BitVec.ofNat 32 q.val == BitVec.ofNat 32 k.val) = 0#1
      rw [beq_eq_false_iff_ne.mpr (mt (word_inj q k).mp hq)]
      rfl]
    rfl
  · exact fun h => absurd (Finset.mem_univ k) h

end

/-! ## The two arrays -/

/-- The factor of the dense part. -/
theorem neg_s : Named.named (F := Ideal) κ "neg_s" (φ := .f32) 0xB8112E8F#32 = ((-1 / 28890 : ℝ) : EReal) :=
  IdealRules.named_const.ideal_named_scalar _ _ _ _ rfl

section
variable (y : Fin 16384 → Fin 2891 → ℝ) (k : Fin 16384 → Fin 2891)
  (hx : ∀ n q, V c main_arg0 (ix2 n q) = (y n q : EReal))
  (ht : ∀ (s : Fin 4) (b : Fin 8) (r : Fin 512), V c main_v0 (ix3 (Rows.slot s b) 0 r) = BitVec.ofNat 32 (k (row s b r)).val)
include hx ht

/-- A grid point's share of the accumulator. -/
theorem share_real (b : Fin 8) :
    share (Proof.blk0 V c (pt b)) (Proof.blk4 V c (pt b)) (Proof.blk1 V c (pt b)) (Proof.blk5 V c (pt b)) (Proof.blk2 V c (pt b)) (Proof.blk6 V c (pt b))
      (Proof.blk3 V c (pt b)) (Proof.blk7 V c (pt b))
      = ((-1 / 28890 * ∑ s : Fin 4, ∑ r : Fin 512, Rows.denseRow (y (row s b r)) (k (row s b r)) : ℝ) : EReal) := by
  unfold share
  rw [neg_s,
    Finset.sum_congr rfl fun r _ => dense_real _ _ r _ _ (fun q => (blk0_apply V c b r q).trans (hx _ q)) ((blk4_apply V c b r).trans (ht 0 b r)),
    Finset.sum_congr rfl fun r _ => dense_real _ _ r _ _ (fun q => (blk1_apply V c b r q).trans (hx _ q)) ((blk5_apply V c b r).trans (ht 1 b r)),
    Finset.sum_congr rfl fun r _ => dense_real _ _ r _ _ (fun q => (blk2_apply V c b r q).trans (hx _ q)) ((blk6_apply V c b r).trans (ht 2 b r)),
    Finset.sum_congr rfl fun r _ => dense_real _ _ r _ _ (fun q => (blk3_apply V c b r q).trans (hx _ q)) ((blk7_apply V c b r).trans (ht 3 b r)),
    ← Rows.coe_sum, ← Rows.coe_sum, ← Rows.coe_sum, ← Rows.coe_sum, ← EReal.coe_add, ← EReal.coe_add, ← EReal.coe_add, ← EReal.coe_mul,
    Fin.sum_univ_four]

/-- The accumulator ends at the dense part of all rows. -/
theorem accEnd_real : Proof.accEnd V c (ix2 0 0) = ((-1 / 28890 * ∑ n, Rows.denseRow (y n) (k n) : ℝ) : EReal) := by
  have step : ∀ (n : ℕ) (h : n < 8), Proof.accAt V c n (by have : cfg0.N = 8 := N_0; omega) (ix2 0 0)
      = ((-1 / 28890 * ∑ b : Fin (n + 1), ∑ s : Fin 4, ∑ r : Fin 512,
          Rows.denseRow (y (row s ⟨b.val, by omega⟩ r)) (k (row s ⟨b.val, by omega⟩ r)) : ℝ) : EReal) := by
    intro n
    induction n with
    | zero =>
      intro h
      rw [Proof.accAt, accFirst_apply]
      refine (share_real V c y k hx ht 0).trans ?_
      rw [Fin.sum_univ_one]
      rfl
    | succ n ih =>
      intro h
      rw [Proof.accAt, accNext_apply, ih (by omega)]
      refine (congrArg _ (share_real V c y k hx ht ⟨n + 1, h⟩)).trans ?_
      rw [← EReal.coe_add, Fin.sum_univ_castSucc (n := n + 1), mul_add]
      rfl
  refine (step 7 (by omega)).trans ?_
  rw [← Rows.sum_rows]

/-- The picks' array ends with every row's picked entry. -/
theorem picksEnd_real (s : Fin 4) (b : Fin 8) (r : Fin 512) (j : Fin 2048) (hj : j.val = s.val * 512 + r.val) :
    Proof.picksEnd V c (ix3 b 0 j) = (y (row s b r) (k (row s b r)) : EReal) := by
  have e : Proof.picksEnd V c (ix3 b 0 j) = Proof.picksAt V c (pt b) (ix3 0 0 j) := by
    unfold Proof.picksEnd
    refine congrArg (Proof.picksAt V c (pt b)) (funext fun a => ?_)
    match a with
    | 0 => rfl
    | 1 => rfl
    | 2 => rfl
  rw [e]
  unfold Proof.picksAt
  rw [picks_apply _ _ _ _ _ _ _ _ s r j hj]
  obtain ⟨s, hs⟩ := s
  interval_cases s
  · exact pick_real _ _ r _ _ (fun q => (blk0_apply V c b r q).trans (hx _ q)) ((blk4_apply V c b r).trans (ht 0 b r))
  · exact pick_real _ _ r _ _ (fun q => (blk1_apply V c b r q).trans (hx _ q)) ((blk5_apply V c b r).trans (ht 1 b r))
  · exact pick_real _ _ r _ _ (fun q => (blk2_apply V c b r q).trans (hx _ q)) ((blk6_apply V c b r).trans (ht 2 b r))
  · exact pick_real _ _ r _ _ (fun q => (blk3_apply V c b r q).trans (hx _ q)) ((blk7_apply V c b r).trans (ht 3 b r))

end

end Cert.KernelIdeal.ArrayValue

end
-- ==== Proof.KernelValue.lean ====
/-
  The idealized kernel's result, where the entries are finite and the targets in range: the sum over the rows of each
  row's dense part and its picked part, over the reals.
-/
module

public import proofs.«01_k».proof.Proof.ArrayValue
public import proofs.«01_k».proof.Proof.LaunchIdeal

@[expose] public section

noncomputable section

namespace Cert.KernelIdeal.KernelValue

open Cert.KernelIdeal Cert.KernelIdeal.Gen
open Idealize.ShloMosaic Idealize.ShloMosaic.TcCoe Idealize.SL.Sem
open Cert.Rows (row laneRow)
open ArrayValue

/-! ## The lanes -/

/-- The constant of a row's picked part. -/
theorem c1 : Named.named (F := Ideal) κ "c1" (φ := .f32) 0xBF8F9C0B#32 = ((1 / 10 * Real.log (14348907 / 1070000000000) : ℝ) : EReal) :=
  IdealRules.named_const.ideal_named_scalar _ _ _ _ rfl
/-- The factor of a row's picked entry. -/
theorem coef : Named.named (F := Ideal) κ "coef" (φ := .f32) 0x3F666422#32 = ((2600 / 2889 : ℝ) : EReal) :=
  IdealRules.named_const.ideal_named_scalar _ _ _ _ rfl

/-- What a row adds to its lane, its picked entry being a real. -/
theorem laneTerm_real (y : Fin 2891 → ℝ) (k : Fin 2891) :
    Proof.laneTerm (F := Ideal) (BitVec.ofNat 32 k.val) (y k : EReal) = (Rows.pickRow y k : EReal) := by
  unfold Proof.laneTerm Rows.pickRow
  by_cases hk : k = 0
  · subst hk
    rw [if_pos rfl]
    exact Ideal.ofBits_zero_f32
  · rw [if_neg hk, c1, coef, show IntOp.cmpi CmpIPredicate.ne (BitVec.ofNat 32 k.val) 0#32 = 1#1 by
      show BitVec.ofBool (!(BitVec.ofNat 32 k.val == 0#32)) = 1#1
      rw [beq_eq_false_iff_ne.mpr (mt (word_zero k).mp hk)]
      rfl, EReal.coe_sub, EReal.coe_mul]
    rfl

/-- A lane's running sum of reals. -/
theorem laneSum_real (t : ℕ → BitVec 32) (g : ℕ → Ideal .f32) (f : ℕ → ℝ) (n : ℕ)
    (h : ∀ i < n, Proof.laneTerm (t i) (g i) = (f i : EReal)) : Proof.laneSum t g n = ((∑ i ∈ Finset.range n, f i : ℝ) : EReal) := by
  induction n with
  | zero => exact Ideal.ofBits_zero_f32
  | succ n ih =>
    rw [Proof.laneSum, ih fun i hi => h i (by omega), h n (by omega), Finset.sum_range_succ, EReal.coe_add]
    rfl

/-- The SparseCores' array of partial sums: tile `w`'s lane `l` adds up the picked parts of its 32 rows. -/
theorem sums_real (tv : Vec Ideal S16384 .i32) (gv : Vec Ideal S16384 .f32) (y : Fin 16384 → Fin 2891 → ℝ) (k : Fin 16384 → Fin 2891)
    (ht : ∀ n, tv (ix1 n) = BitVec.ofNat 32 (k n).val)
    (hg : ∀ (s : Fin 4) (b : Fin 8) (r : Fin 512), gv (ix1 (⟨(b.val * 4 + s.val) * 512 + r.val, by omega⟩ : Fin 16384)) = (y (row s b r) (k (row s b r)) : EReal))
    (w : Fin 32) (l : Fin 16) :
    Proof.sums tv gv (ix2 w l) = ((∑ q : Fin 32, Rows.pickRow (y (laneRow w l q)) (k (laneRow w l q)) : ℝ) : EReal) := by
  unfold Proof.sums Proof.laneOut
  refine (laneSum_real _ _ (fun i => if h : i < 32 then Rows.pickRow (y (laneRow w l ⟨i, h⟩)) (k (laneRow w l ⟨i, h⟩)) else 0) 32 fun i hi => ?_).trans ?_
  · dsimp only
    rw [dif_pos hi]
    have hw := w.isLt
    have hl := l.isLt
    have e : row ⟨w.val / 8, by omega⟩ ⟨w.val % 8, by omega⟩ ⟨16 * i + l.val, by omega⟩ = laneRow w l ⟨i, hi⟩ := by
      apply Fin.ext
      simp only [row, laneRow]
      omega
    have et : Proof.rowsAt tv (w.val * 512) (Proof.ix (16 * i + l.val)) = BitVec.ofNat 32 (k (laneRow w l ⟨i, hi⟩)).val := by
      rw [← ht]
      refine congrArg tv (funext fun a => Fin.ext ?_)
      match a with
      | 0 => show (w.val * 512 + (16 * i + l.val) % 512) % 16384 = w.val * 512 + (16 * i + l.val); omega
    have eg : Proof.rowsAt gv ((w.val % 8 * 4 + w.val / 8) * 512) (Proof.ix (16 * i + l.val))
        = (y (laneRow w l ⟨i, hi⟩) (k (laneRow w l ⟨i, hi⟩)) : EReal) := by
      rw [← e, ← hg]
      refine congrArg gv (funext fun a => Fin.ext ?_)
      match a with
      | 0 => show ((w.val % 8 * 4 + w.val / 8) * 512 + (16 * i + l.val) % 512) % 16384 = (w.val % 8 * 4 + w.val / 8) * 512 + (16 * i + l.val); omega
    exact (congrArg₂ (Proof.laneTerm (F := Ideal)) et eg).trans (laneTerm_real _ _)
  · rw [← Fin.sum_univ_eq_sum_range]
    refine congrArg _ (Finset.sum_congr rfl fun q _ => dif_pos q.isLt)

/-! ## The result -/

/-- The picks flattened. -/
theorem flat (g : Vec Ideal S8x1x2048 .f32) (s : Fin 4) (b : Fin 8) (r : Fin 512) :
    shapeCast S16384 g shapeCasts_S8x1x2048_S16384 (ix1 (⟨(b.val * 4 + s.val) * 512 + r.val, by omega⟩ : Fin 16384))
      = g (ix3 b 0 (⟨s.val * 512 + r.val, by omega⟩ : Fin 2048)) := by
  pointwise
  refine congrArg g (congrArg (ix3 b 0) (Fin.ext ?_))
  dsimp only
  omega

/-- The targets by slice and grid point. -/
theorem targets (t : Vec Ideal S16384 .i32) (s : Fin 4) (b : Fin 8) (r : Fin 512) :
    shapeCast S32x1x512 t shapeCasts_S16384_S32x1x512 (ix3 (Rows.slot s b) 0 r) = t (ix1 (row s b r)) := by
  pointwise
  rfl

variable (m : (ℓ : Loc nD τ sig) → Buf (Elt Ideal) ℓ) (c : Dev nD)

/-- The call finds the entries as they stood at the start, -/
theorem at_arg0 : Proof.R1 m c main_arg0 = m ((c.tc : Thread nD τ).loc main_arg0) := by
  show Proof.W1 m c (Proc.devRef .tc main_arg0) = _
  unfold Proof.W1
  rw [StableHlo.reshape_result_ne _ _ _ _ _ _ _ (show main_arg0 ≠ main_v0 by decide)]
  rfl

/-- and the targets reshaped. -/
theorem at_v0 : Proof.R1 m c main_v0 = shapeCast S32x1x512 (m ((c.tc : Thread nD τ).loc main_arg1)) shapeCasts_S16384_S32x1x512 := by
  show Proof.W1 m c (Proc.devRef .tc main_v0) = _
  unfold Proof.W1
  rw [StableHlo.reshape_result]
  rfl

/-- The result, over the reals. -/
theorem value_real (y : Fin 16384 → Fin 2891 → ℝ) (k : Fin 16384 → Fin 2891)
    (hx : ∀ n q, m ((c.tc : Thread nD τ).loc main_arg0) (ix2 n q) = (y n q : EReal))
    (ht : ∀ n, m ((c.tc : Thread nD τ).loc main_arg1) (ix1 n) = BitVec.ofNat 32 (k n).val) :
    Proof.value m c = fun _ => ((∑ n, (-1 / 28890 * Rows.denseRow (y n) (k n) + Rows.pickRow (y n) (k n)) : ℝ) : EReal) := by
  have hx' : ∀ n q, Proof.R1 m c main_arg0 (ix2 n q) = (y n q : EReal) := fun n q => (congrFun (at_arg0 m c) _).trans (hx n q)
  have ht' : ∀ (s : Fin 4) (b : Fin 8) (r : Fin 512), Proof.R1 m c main_v0 (ix3 (Rows.slot s b) 0 r)
      = BitVec.ofNat 32 (k (row s b r)).val :=
    fun s b r => ((congrFun (at_v0 m c) _).trans (targets _ s b r)).trans (ht _)
  funext i
  rw [ValueIdx.eq_ix0 i]
  unfold Proof.value
  pointwise
  rw [accEnd_real (Proof.R1 m) c y k hx' ht']
  have hs : ∀ (w : Fin 32) (l : Fin 16), Proof.sums (m (c, Proof.a1')) (shapeCast S16384 (Proof.picksEnd (Proof.R1 m) c) shapeCasts_S8x1x2048_S16384) (ix2 w l)
      = ((∑ q : Fin 32, Rows.pickRow (y (laneRow w l q)) (k (laneRow w l q)) : ℝ) : EReal) :=
    fun w l => sums_real _ _ y k ht (fun s b r => (flat _ s b r).trans (picksEnd_real (Proof.R1 m) c y k hx' ht' s b r _ rfl)) w l
  rw [Finset.sum_congr rfl fun w _ => Finset.sum_congr rfl fun l _ => hs w l]
  simp only [← Rows.coe_sum]
  rw [Rows.sum_lanes fun n => Rows.pickRow (y n) (k n), ← EReal.coe_add, Finset.sum_add_distrib, Finset.mul_sum]

end Cert.KernelIdeal.KernelValue

end
-- ==== Proof.Consts.lean ====
/-
  The float constants that the reference and the precondition spell, as the extended reals that their patterns denote.
-/
module

public import Idealize.ShloMosaic.PureOps.Ideal

@[expose] public section

noncomputable section

namespace Cert.Consts

open Idealize.ShloMosaic

/-- `1.0` denotes one. -/
theorem one : Ideal.ofBits .f32 0x3F800000#32 = ((1 : ℝ) : EReal) := by
  simp [Ideal.ofBits, Ideal.ieee, -EReal.coe_mul]; norm_num

/-- `10.0` denotes ten. -/
theorem ten : Ideal.ofBits .f32 0x41200000#32 = ((10 : ℝ) : EReal) := by
  simp [Ideal.ofBits, Ideal.ieee, -EReal.coe_mul]; norm_num

/-- `2889.0` denotes the number of columns that share the smoothing mass. -/
theorem columns : Ideal.ofBits .f32 0x45349000#32 = ((2889 : ℝ) : EReal) := by
  simp [Ideal.ofBits, Ideal.ieee, -EReal.coe_mul]; norm_num

/-- The pattern of the precondition's bound denotes `+∞`. -/
theorem infinity : Ideal.ofBits .f32 0x7F800000#32 = ⊤ := by
  simp [Ideal.ofBits, Ideal.ieee]

end Cert.Consts

end
-- ==== Proof.Scatter.lean ====
/-
  The reference's two scatters, read at one entry: each row's target column set to one value, then one column set to
  another.
-/
module

public import Idealize.ShloMosaic.Lib.Routing.OpsOne

@[expose] public section

namespace Cert.Scatter

open Idealize.ShloMosaic Idealize.ShloMosaic.ValueIdx Idealize.ShloMosaic.Routing

/-- Update `a` of a scatter of `A` scalars into an `R × C` matrix, two index words each, lands at `(r, c)` exactly when
    row `a` of the index table, read signed, is `(r, c)`. -/
theorem lands_pair {R C A w : Nat} (d : ScatterDims (shape2 R C) (shape2 A 2) (shape1 A)) (hi : d.insertedWindowDims = [0, 1])
    (hs : d.scatterDimsToOperandDims = [0, 1]) (hv : d.indexVectorDim = 1) (idx : IVec (shape2 A 2) w) (a : Fin A) (r : Fin R) (c : Fin C) :
    d.resultIdx? (ix1 a) idx = some (ix2 r c)
      ↔ (idx (ix2 a (0 : Fin 2))).toInt = r.val ∧ (idx (ix2 a (1 : Fin 2))).toInt = c.val := by
  have hmem : ∀ q : Fin 2, q ∈ d.scatterDimsToOperandDims := fun q => by rw [hs]; fin_cases q <;> simp
  have hw : ∀ q : Fin 2, d.window (ix1 a) q = 0 := fun q => by
    unfold ScatterDims.window
    rw [dif_neg]
    intro h
    have := (List.mem_filter.1 h).2
    rw [hi] at this
    fin_cases q <;> simp at this
  have hval : ∀ z : Fin 1, ((ix1 a : (shape1 A).Idx) z).val = a.val := fun z => by rw [Subsingleton.elim z 0]
  have hst : ∀ q : Fin 2, d.start (ix1 a) idx q = (idx (ix2 a q)).toInt := fun q => by
    unfold ScatterDims.start
    rw [dif_pos (hmem q)]
    congr 2
    funext b
    apply Fin.ext
    unfold ScatterDims.siIdx
    match b with
    | ⟨0, _⟩ =>
      rw [dif_neg (by rw [hv]; exact (by decide : (0 : ℕ) ≠ 1))]
      unfold ScatterDims.siCoord
      simp only [Fin.val_cast]
      exact hval _
    | ⟨1, _⟩ =>
      rw [dif_pos (by rw [hv])]
      show List.idxOf q d.scatterDimsToOperandDims = q.val
      rw [hs]
      fin_cases q <;> rfl
  rw [resultIdx?_ix2, hst, hst, hw, hw]
  simp

/-- A scatter that sets one entry in each row, row `n`'s at column `k n`, read at `(n, c)`: row `n`'s update at that column,
    and what was there at the others. -/
theorem rows {α : Type} {R C w : Nat} (d : ScatterDims (shape2 R C) (shape2 R 2) (shape1 R)) (hi : d.insertedWindowDims = [0, 1])
    (hs : d.scatterDimsToOperandDims = [0, 1]) (hv : d.indexVectorDim = 1) (x : (shape2 R C).Idx → α) (idx : IVec (shape2 R 2) w)
    (u : (shape1 R).Idx → α) (k : Fin R → Fin C) (h0 : ∀ n, (idx (ix2 n (0 : Fin 2))).toInt = (n.val : ℤ))
    (h1 : ∀ n, (idx (ix2 n (1 : Fin 2))).toInt = ((k n).val : ℤ)) (n : Fin R) (c : Fin C) :
    Host.scatter d (fun _ b => b) x idx u (ix2 n c) = if c = k n then u (ix1 n) else x (ix2 n c) := by
  have hl : ∀ j : (shape1 R).Idx, d.resultIdx? j idx = some (ix2 n c) → j = ix1 n ∧ c = k n := fun j hj => by
    obtain ⟨a, rfl⟩ : ∃ a : Fin R, j = ix1 a := ⟨j 0, eq_ix1 j⟩
    obtain ⟨e0, e1⟩ := (lands_pair d hi hs hv idx a n c).1 hj
    rw [h0] at e0
    rw [h1] at e1
    have : a = n := Fin.ext (by omega)
    subst this
    exact ⟨rfl, Fin.ext (by omega)⟩
  by_cases h : c = k n
  · rw [if_pos h]
    exact scatter_set_hit d x idx u _ _ (fun j hj => by rw [(hl j hj).1]) (ix1 n)
      ((lands_pair d hi hs hv idx n n c).2 ⟨h0 n, by rw [h1, h]⟩)
  · rw [if_neg h]
    exact scatter_set_miss d x idx u _ fun j hj => h (hl j hj).2

/-- A scatter that sets column `k`, read at `(n, c)`: row `n`'s update at that column, and what was there at the others. -/
theorem column {α : Type} {R C : Nat} (d : ScatterDims (shape2 R C) (shape1 1) (shape1 R)) (hi : d.insertedWindowDims = [1])
    (hs : d.scatterDimsToOperandDims = [1]) (x : (shape2 R C).Idx → α) (idx : IVec (shape1 1) 32)
    (u : (shape1 R).Idx → α) (k : Fin C) (h0 : (idx (ix1 (0 : Fin 1))).toInt = (k.val : ℤ)) (n : Fin R) (c : Fin C) :
    Host.scatter d (fun _ b => b) x idx u (ix2 n c) = if c = k then u (ix1 n) else x (ix2 n c) := by
  have hl : ∀ j : (shape1 R).Idx, d.resultIdx? j idx = some (ix2 n c) → j = ix1 n ∧ c = k := fun j hj => by
    obtain ⟨a, rfl⟩ : ∃ a : Fin R, j = ix1 a := ⟨j 0, eq_ix1 j⟩
    obtain ⟨e0, e1⟩ := (lands_col d hi hs idx k h0 a n c).1 hj
    exact ⟨by rw [e0], e1⟩
  by_cases h : c = k
  · rw [if_pos h]
    exact scatter_set_hit d x idx u _ _ (fun j hj => by rw [(hl j hj).1]) (ix1 n) ((lands_col d hi hs idx k h0 n n c).2 ⟨rfl, h⟩)
  · rw [if_neg h]
    exact scatter_set_miss d x idx u _ fun j hj => h (hl j hj).2

end Cert.Scatter

end
-- ==== Proof.ReferenceValue.lean ====
/-
  The idealized reference's result, where the entries are finite and the targets in range: the sum over the rows of each
  row's loss, over the reals.
-/
module

public import proofs.«01_k».proof.Proof.Gen.ReferenceIdeal.Run
public import proofs.«01_k».proof.Proof.Consts
public import proofs.«01_k».proof.Proof.Rows
public import proofs.«01_k».proof.Proof.Scatter
public import Idealize.ShloMosaic.Lib.Pointwise

@[expose] public section

noncomputable section

namespace Cert.ReferenceIdeal.ReferenceValue

open Cert.ReferenceIdeal Cert.ReferenceIdeal.Gen
open Idealize.ShloMosaic Idealize.ShloMosaic.TcCoe Idealize.SL.Sem

/-! ## The target distribution -/

/-- The index table of the confidence scatter: each row's number beside its target. -/
def pairs (t : IVec S16384 32) : IVec S16384x2 32 :=
  concatenate S16384x2 1 [⟨S16384x1, (broadcastInDim S16384x1 ![0] bcast_S16384_S16384x1_0 (select (cmpi .slt (iotaInDim S16384 32 0) (broadcastInDim S16384 ![] bcast_S_S16384 (constantI S_ 32 0#32))) (addi (iotaInDim S16384 32 0) (broadcastInDim S16384 ![] bcast_S_S16384 (constantI S_ 32 16384#32))) (iotaInDim S16384 32 0)))⟩, ⟨S16384x1, (broadcastInDim S16384x1 ![0] bcast_S16384_S16384x1_0 (select (cmpi .slt t (broadcastInDim S16384 ![] bcast_S_S16384 (constantI S_ 32 0#32))) (addi t (broadcastInDim S16384 ![] bcast_S_S16384 (constantI S_ 32 2891#32))) t))⟩] concatenates_S16384x1_S16384x1_S16384x2_d1

/-- The target distribution of targets `t`, as the reference builds it. -/
def dist (t : IVec S16384 32) : FVec Ideal S16384x2891 .f32 :=
  select (broadcastInDim S16384x2891 ![0, 1] bcast_S16384x1_S16384x2891_0_1 (broadcastInDim S16384x1 ![0] bcast_S16384_S16384x1_0 (cmpi .eq t (broadcastInDim S16384 ![] bcast_S_S16384 (constantI S_ 32 0#32))))) (broadcastInDim S16384x2891 ![] bcast_S_S16384x2891 (id (constant S_ .f32 0x00000000#32))) (Host.scatter scatter_S16384x2891_S1_S16384_0_1_1_0 (fun _ b => b) (Host.scatter scatter_S16384x2891_S16384x2_S16384_n_01_01_1 (fun _ b => b) (broadcastInDim S16384x2891 ![] bcast_S_S16384x2891 (Host.divf (Host.divf (constant S_ .f32 0x3F800000#32) (constant S_ .f32 0x41200000#32)) (constant S_ .f32 0x45349000#32))) (pairs t) (broadcastInDim S16384 ![] bcast_S_S16384 (subf (constant S_ .f32 0x3F800000#32) (Host.divf (constant S_ .f32 0x3F800000#32) (constant S_ .f32 0x41200000#32))))) (broadcastInDim S1 ![] bcast_S_S1 (constantI S_ 32 0#32)) (broadcastInDim S16384 ![] bcast_S_S16384 (constant S_ .f32 0x00000000#32)))

/-- The result in terms of the target distribution. -/
theorem res_eq (m : (ℓ : Loc nD τ sig) → Buf (Elt Ideal) ℓ) (c : Dev nD) :
    Value.res_main_v36 m c
      = Host.reduceAdd (select (cmpf .ogt (dist (m ((c.tc : Thread nD τ).loc main_arg1))) (broadcastInDim S16384x2891 ![] bcast_S_S16384x2891 (constant S_ .f32 0x00000000#32)))
          (mulf (dist (m ((c.tc : Thread nD τ).loc main_arg1)))
            (subf (Host.log (select (cmpf .ogt (dist (m ((c.tc : Thread nD τ).loc main_arg1))) (broadcastInDim S16384x2891 ![] bcast_S_S16384x2891 (constant S_ .f32 0x00000000#32)))
              (dist (m ((c.tc : Thread nD τ).loc main_arg1))) (broadcastInDim S16384x2891 ![] bcast_S_S16384x2891 (id (constant S_ .f32 0x3F800000#32)))))
              (m ((c.tc : Thread nD τ).loc main_arg0))))
          (broadcastInDim S16384x2891 ![] bcast_S_S16384x2891 (id (constant S_ .f32 0x00000000#32))))
        (constant S_ .f32 0x00000000#32) reducesTo_S16384x2891_S_d0_1 h_S_ := rfl

variable (t : IVec S16384 32) (k : Fin 16384 → Fin 2891) (ht : ∀ n, t (ix1 n) = BitVec.ofNat 32 (k n).val)

/-- A word that spells a number below `2³¹` is left as it is by the wrap of a negative index, and reads signed as the number. -/
theorem wrap_toInt (v : ℕ) (a : BitVec 32) (h : v < 2 ^ 31) :
    (Scalar.select (IntOp.cmpi CmpIPredicate.slt (BitVec.ofNat 32 v) 0#32) a (BitVec.ofNat 32 v)).toInt = (v : ℤ) := by
  rw [Routing.wrap_of_lt _ _ (by rw [BitVec.toNat_ofNat]; omega)]
  exact StableHlo.Predicate.toInt_ofNat_small v h

/-- The table's first column is the row's number. -/
theorem pairs_row (n : Fin 16384) : (pairs t (ix2 n (0 : Fin 2))).toInt = (n.val : ℤ) := by
  unfold pairs
  pointwise
  exact wrap_toInt _ _ (by omega)

include ht in
/-- The table's second column is the row's target. -/
theorem pairs_target (n : Fin 16384) : (pairs t (ix2 n (1 : Fin 2))).toInt = ((k n).val : ℤ) := by
  unfold pairs
  pointwise
  rw [ht]
  exact wrap_toInt _ _ (by omega)

include ht in
/-- The target distribution at `(n, q)` is the weight of column `q` in a row whose target is row `n`'s. -/
theorem dist_apply (n : Fin 16384) (q : Fin 2891) : dist t (ix2 n q) = ((Rows.weight (k n) q : ℝ) : EReal) := by
  unfold dist
  generalize hs : Host.scatter scatter_S16384x2891_S1_S16384_0_1_1_0 _ _ _ _ = s
  have e := (congrFun hs (ix2 n q)).symm.trans (Scatter.column _ rfl rfl _ _ _ (0 : Fin 2891) (by rfl) n q)
  rw [Scatter.rows _ rfl rfl rfl _ _ _ k (pairs_row t) (pairs_target t k ht)] at e
  change s (ix2 n q) = if q = 0 then _ else if q = k n then _ else _ at e
  pointwise at e
  pointwise
  rw [e, ht, Consts.ten, Consts.columns]
  unfold Rows.weight
  by_cases hk : k n = 0
  · rw [hk, if_pos rfl]
    exact Ideal.ofBits_zero_f32
  · have hw : BitVec.ofNat 32 (k n).val ≠ 0#32 := fun h => hk (Fin.ext (by
      have := congrArg BitVec.toNat h
      rw [BitVec.toNat_ofNat, BitVec.toNat_ofNat] at this
      show (k n).val = 0
      omega))
    rw [if_neg hk, show IntOp.cmpi CmpIPredicate.eq (BitVec.ofNat 32 (k n).val) 0#32 = 0#1 by
      show BitVec.ofBool (BitVec.ofNat 32 (k n).val == 0#32) = 0#1
      rw [beq_eq_false_iff_ne.mpr hw]
      rfl]
    show (if q = 0 then (0 : EReal) else _) = _
    have h1 : (1 : EReal) = ((1 : ℝ) : EReal) := rfl
    split
    · rfl
    · rw [h1, Ideal.div_coe (by norm_num : (10 : ℝ) ≠ 0), Ideal.div_coe (by norm_num : (2889 : ℝ) ≠ 0)]
      split
      · rw [← EReal.coe_mul, ← EReal.coe_sub]
        norm_num
      · rw [← EReal.coe_mul, ← EReal.coe_mul]
        norm_num

/-! ## The loss -/

variable (m : (ℓ : Loc nD τ sig) → Buf (Elt Ideal) ℓ) (c : Dev nD) (y : Fin 16384 → Fin 2891 → ℝ)

/-- What a column of weight `w` adds to its row's loss, its entry being the real `v`. -/
theorem term (w v : ℝ) (o z : EReal) (hz : z = 0) :
    (if (0 : EReal) < (w : EReal) then (w : EReal) * (Ideal.log (if (0 : EReal) < (w : EReal) then (w : EReal) else o) - (v : EReal)) else z)
      = ((if 0 < w then w * (Real.log w - v) else 0 : ℝ) : EReal) := by
  by_cases h : 0 < w
  · rw [if_pos h, if_pos (EReal.coe_pos.2 h), if_pos (EReal.coe_pos.2 h), Ideal.log_coe, if_neg (not_le.2 h), EReal.coe_mul, EReal.coe_sub]
  · rw [if_neg h, if_neg fun q => h (EReal.coe_pos.1 q), hz]
    rfl

/-- The result is the sum over the rows of each row's loss, over the reals. -/
theorem value_real (hx : ∀ n q, m ((c.tc : Thread nD τ).loc main_arg0) (ix2 n q) = (y n q : EReal))
    (ht : ∀ n, m ((c.tc : Thread nD τ).loc main_arg1) (ix1 n) = BitVec.ofNat 32 (k n).val) :
    Value.res_main_v36 m c = fun _ => ((∑ n, Rows.refRow (y n) (k n) : ℝ) : EReal) := by
  rw [res_eq]
  have hd := dist_apply _ k ht
  generalize dist (m ((c.tc : Thread nD τ).loc main_arg1)) = d at hd ⊢
  funext i
  rw [ValueIdx.eq_ix0 i]
  pointwise
  rw [Rows.coe_sum]
  refine Finset.sum_congr rfl fun n _ => ?_
  unfold Rows.refRow
  rw [Rows.coe_sum]
  refine Finset.sum_congr rfl fun q _ => ?_
  rw [hd, hx]
  exact term _ _ _ _ Ideal.ofBits_zero_f32

end Cert.ReferenceIdeal.ReferenceValue

end
-- ==== Proof.Algebraic.lean ====
/-
  The value claim: under the precondition the idealized kernel and the reference return the same extended real.
-/
module

public import proofs.«01_k».proof.Defs
public import proofs.«01_k».proof.Proof.KernelValue
public import proofs.«01_k».proof.Proof.ReferenceValue
public import proofs.«01_k».proof.Proof.Gen.Pre_target_in_range
public import Idealize.ShloMosaic.Lib.ReduceAll

@[expose] public section

noncomputable section

namespace Cert.Proof.Algebraic

open Idealize.ShloMosaic Idealize.ShloMosaic.TcCoe Idealize.SL.Sem

/-! ## The precondition -/

/-- An `and` of two bits is set exactly when both are. -/
theorem andi_one : ∀ a b : BitVec 1, IntOp.andi a b = 1#1 → a = 1#1 ∧ b = 1#1 := by decide

/-- An extended real whose absolute value is below `+∞` is a real. -/
theorem real_of_abs (v : EReal) (h : max v (-v) < ⊤) : ∃ r : ℝ, v = (r : EReal) := by
  induction v with
  | bot => simp at h
  | top => simp at h
  | coe r => exact ⟨r, rfl⟩

/-- A word that reads signed between `0` and `2891` spells a column's number. -/
theorem column_of_range (w : BitVec 32) (h0 : IntOp.cmpi CmpIPredicate.sge w 0#32 = 1#1) (h1 : IntOp.cmpi CmpIPredicate.slt w 2891#32 = 1#1) :
    ∃ k : Fin 2891, w = BitVec.ofNat 32 k.val := by
  have e0 : (0#32).sle w = true := by
    revert h0
    show BitVec.ofBool ((0#32).sle w) = 1#1 → _
    cases (0#32).sle w <;> simp
  have e1 : w.slt 2891#32 = true := by
    revert h1
    show BitVec.ofBool (w.slt 2891#32) = 1#1 → _
    cases w.slt 2891#32 <;> simp
  rw [BitVec.sle_iff_toInt_le] at e0
  rw [BitVec.slt_iff_toInt_lt] at e1
  have z0 : (0#32).toInt = 0 := by decide
  have z1 : (2891#32).toInt = 2891 := by decide
  rw [z0] at e0
  rw [z1] at e1
  have hw := BitVec.toInt_eq_toNat_cond w
  have hl := w.isLt
  have hn : w.toNat < 2891 := by split at hw <;> omega
  exact ⟨⟨w.toNat, hn⟩, by rw [BitVec.ofNat_toNat, BitVec.setWidth_eq]⟩

/-- What the precondition says of the arguments: the entries are reals, and the targets are columns. -/
theorem pre_real (x : FVec Ideal Cert.Pre_target_in_range.S16384x2891 .f32) (t : IVec Cert.Pre_target_in_range.S16384 32)
    (h : Cert.Pre_target_in_range.fn (F := Ideal) x t = fun _ => 1#1) :
    ∃ (y : Fin 16384 → Fin 2891 → ℝ) (k : Fin 16384 → Fin 2891),
      (∀ n q, x (ix2 n q) = (y n q : EReal)) ∧ ∀ n, t (ix1 n) = BitVec.ofNat 32 (k n).val := by
  have h0 := congrFun h ix0
  obtain ⟨ht, hx⟩ := andi_one _ _ h0
  have hk : ∀ n : Fin 16384, ∃ k : Fin 2891, t (ix1 n) = BitVec.ofNat 32 k.val := fun n => by
    obtain ⟨a, b⟩ := andi_one _ _ (Host.reduce_andi_all _ _ _ _ _ ht (ix1 n))
    exact column_of_range _ a b
  have hy : ∀ (n : Fin 16384) (q : Fin 2891), ∃ r : ℝ, x (ix2 n q) = (r : EReal) := fun n q => by
    have e := Host.reduce_andi_all _ _ _ _ _ hx (ix2 n q)
    refine real_of_abs _ ?_
    rw [← Consts.infinity]
    revert e
    show BitVec.ofBool (decide (max (x (ix2 n q)) (-x (ix2 n q)) < Ideal.ofBits .f32 0x7F800000#32)) = 1#1 → _
    by_cases c : max (x (ix2 n q)) (-x (ix2 n q)) < Ideal.ofBits .f32 0x7F800000#32
    · exact fun _ => c
    · rw [decide_eq_false c]
      exact nofun
  choose k hk using hk
  choose y hy using hy
  exact ⟨y, k, hy, hk⟩

/-! ## The claim -/

/-- Under the precondition, from memories that agree on the arguments, the idealized kernel and the reference both run,
    return the same extended real on every device, and leave their arguments as they were. -/
theorem algebraic : Cert.algebraic_KernelIdeal_ReferenceIdeal_pre_target_in_range := by
  intro m g m' g' hpre hag
  refine ⟨fun c => Cert.KernelIdeal.Proof.value m c, ?_, ?_⟩
  · exact (θ_run Cert.KernelIdeal.defs _ _).mono (fun _ h c => ⟨(h.1 c).2.2, (h.1 c).1, (h.1 c).2.1⟩)
      (Cert.KernelIdeal.Proof.run_main (F := Ideal) m g)
  · refine (θ_run Cert.ReferenceIdeal.defs _ _).mono (fun _ h c => ⟨(h c).1.trans ?_, (h c).2⟩)
      (Cert.ReferenceIdeal.Value.run (F := Ideal) m' g')
    obtain ⟨y, k, hy, hk⟩ := pre_real _ _ (hpre c)
    rw [Cert.ReferenceIdeal.ReferenceValue.value_real k m' c y (fun n q => (congrFun (hag c).1 (ix2 n q)).trans (hy n q))
        (fun n => (congrFun (hag c).2 (ix1 n)).trans (hk n))]
    refine Eq.trans ?_ (Cert.KernelIdeal.KernelValue.value_real m c y k hy hk).symm
    funext _
    exact congrArg _ (Finset.sum_congr rfl fun n _ => Rows.refRow_eq (y n) (k n))

end Cert.Proof.Algebraic

end
-- ==== Proof.lean ====
module

public import proofs.«01_k».proof.Defs
public import proofs.«01_k».proof.Proof.Claims
public import proofs.«01_k».proof.Proof.Algebraic
public import proofs.«01_k».proof.Proof.Gen.Kernel
public import proofs.«01_k».proof.Proof.Gen.KernelIdeal
public import proofs.«01_k».proof.Proof.Gen.ReferenceIdeal
public import proofs.«01_k».proof.Proof.Gen.Pre_target_in_range
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_target_in_range.Gen.facts,
    Claims.frame_p, Claims.frame_pi, fun m ρ _ => Claims.frame_pi m ρ trivial, Claims.frame_ri, fun m ρ _ => Claims.frame_ri m ρ trivial,
    Claims.preserves, Algebraic.algebraic⟩

end Cert.Proof

end
